-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v682) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1024x64 : Shape := ⟨2, ![1024, 64]⟩
abbrev S1024x64x28x28 : Shape := ⟨4, ![1024, 64, 28, 28]⟩
abbrev S1024x2 : Shape := ⟨2, ![1024, 2]⟩
abbrev S11x32 : Shape := ⟨2, ![11, 32]⟩
abbrev S10x32 : Shape := ⟨2, ![10, 32]⟩
abbrev S2x1024 : Shape := ⟨2, ![2, 1024]⟩
abbrev S_ : Shape := ⟨0, ![]⟩
abbrev S1x32 : Shape := ⟨2, ![1, 32]⟩
abbrev S32 : Shape := ⟨1, ![32]⟩

class Facts : Prop where
  bcast_S_S1024x64 : S_.BroadcastsInDim S1024x64 (![] : Fin 0 → Fin S1024x64.rank)
  slices_S11x32_S1x32_10_0 : S11x32.Slices ![10, 0] S1x32
  shapeCasts_S1x32_S32 : S1x32.ShapeCasts S32
  bcast_S_S32 : S_.BroadcastsInDim S32 (![] : Fin 0 → Fin S32.rank)
  bcast_S_S2x1024 : S_.BroadcastsInDim S2x1024 (![] : Fin 0 → Fin S2x1024.rank)

variable [Facts]

def fn {F : FTy → Type} [FloatOps F] (main_arg0 : IVec S1024x64 32) (main_arg1 : FVec F S1024x64x28x28 .f32) (main_arg2 : IVec S1024x2 32) (main_arg3 : FVec F S11x32 .f32) (main_arg4 : FVec F S10x32 .f32) (main_arg5 : FVec F S2x1024 .f32) : IVec S1024x64 1 × IVec S1024x64 1 × IVec S32 1 × IVec S2x1024 1 :=
  let main_c : IVec S_ 32 := constantI S_ 32 0#32
  let main_v0 : IVec S1024x64 32 := broadcastInDim S1024x64 ![] bcast_S_S1024x64 main_c
  let main_v1 : IVec S1024x64 1 := cmpi .sge main_arg0 main_v0
  let main_c_0 : IVec S_ 32 := constantI S_ 32 11#32
  let main_v2 : IVec S1024x64 32 := broadcastInDim S1024x64 ![] bcast_S_S1024x64 main_c_0
  let main_v3 : IVec S1024x64 1 := cmpi .slt main_arg0 main_v2
  let main_v4 : FVec F S1x32 .f32 := (extractStridedSlice S1x32 ![10, 0] · slices_S11x32_S1x32_10_0) main_arg3
  let main_v5 : FVec F S32 .f32 := shapeCast S32 main_v4 shapeCasts_S1x32_S32
  let main_v6 : FVec F S32 .f32 := Host.absf main_v5
  let main_cst : FVec F S_ .f32 := constant S_ .f32 0x7F800000#32
  let main_v7 : FVec F S32 .f32 := broadcastInDim S32 ![] bcast_S_S32 main_cst
  let main_v8 : IVec S32 1 := cmpf .olt main_v6 main_v7
  let main_v9 : FVec F S2x1024 .f32 := Host.absf main_arg5
  let main_cst_1 : FVec F S_ .f32 := constant S_ .f32 0x7F800000#32
  let main_v10 : FVec F S2x1024 .f32 := broadcastInDim S2x1024 ![] bcast_S_S2x1024 main_cst_1
  let main_v11 : IVec S2x1024 1 := cmpf .olt main_v9 main_v10
  (main_v1, main_v3, main_v8, main_v11)
-- ==== Kernel.lean ====
abbrev S1024x64 : Shape := ⟨2, ![1024, 64]⟩
abbrev S1024x64x28x28 : Shape := ⟨4, ![1024, 64, 28, 28]⟩
abbrev S1024x2 : Shape := ⟨2, ![1024, 2]⟩
abbrev S11x32 : Shape := ⟨2, ![11, 32]⟩
abbrev S10x32 : Shape := ⟨2, ![10, 32]⟩
abbrev S2x1024 : Shape := ⟨2, ![2, 1024]⟩
abbrev S64 : Shape := ⟨1, ![64]⟩
abbrev S1x127 : Shape := ⟨2, ![1, 127]⟩
abbrev S64x1024 : Shape := ⟨2, ![64, 1024]⟩
abbrev S_ : Shape := ⟨0, ![]⟩
abbrev S64x1 : Shape := ⟨2, ![64, 1]⟩
abbrev S1x65536 : Shape := ⟨2, ![1, 65536]⟩
abbrev S1x127x1024 : Shape := ⟨3, ![1, 127, 1024]⟩
abbrev S1x130048 : Shape := ⟨2, ![1, 130048]⟩
abbrev S1x1024 : Shape := ⟨2, ![1, 1024]⟩
abbrev S1024 : Shape := ⟨1, ![1024]⟩
abbrev S32x32 : Shape := ⟨2, ![32, 32]⟩
abbrev S10x1024 : Shape := ⟨2, ![10, 1024]⟩
abbrev S5x32 : Shape := ⟨2, ![5, 32]⟩
abbrev S16x32 : Shape := ⟨2, ![16, 32]⟩
abbrev S32x16 : Shape := ⟨2, ![32, 16]⟩
abbrev S16 : Shape := ⟨1, ![16]⟩
abbrev S1x16 : Shape := ⟨2, ![1, 16]⟩
abbrev S16x65536 : Shape := ⟨2, ![16, 65536]⟩
abbrev S32x65536 : Shape := ⟨2, ![32, 65536]⟩
abbrev S32x32768 : Shape := ⟨2, ![32, 32768]⟩
abbrev S32768 : Shape := ⟨1, ![32768]⟩
abbrev S1x32768 : Shape := ⟨2, ![1, 32768]⟩
abbrev S32x16384 : Shape := ⟨2, ![32, 16384]⟩
abbrev S16384 : Shape := ⟨1, ![16384]⟩
abbrev S1x16384 : Shape := ⟨2, ![1, 16384]⟩
abbrev S32x8192 : Shape := ⟨2, ![32, 8192]⟩
abbrev S8192 : Shape := ⟨1, ![8192]⟩
abbrev S1x8192 : Shape := ⟨2, ![1, 8192]⟩
abbrev S32x4096 : Shape := ⟨2, ![32, 4096]⟩
abbrev S4096 : Shape := ⟨1, ![4096]⟩
abbrev S1x4096 : Shape := ⟨2, ![1, 4096]⟩
abbrev S32x2048 : Shape := ⟨2, ![32, 2048]⟩
abbrev S2048 : Shape := ⟨1, ![2048]⟩
abbrev S1x2048 : Shape := ⟨2, ![1, 2048]⟩
abbrev S32x1024 : Shape := ⟨2, ![32, 1024]⟩
abbrev S32x1 : Shape := ⟨2, ![32, 1]⟩
abbrev S1024x10 : Shape := ⟨2, ![1024, 10]⟩

abbrev nBuf : Space → Nat
  | .hbm => 32
  | .vmem => 8
  | .smem => 0
  | _ => 0

abbrev bufTy : (tb : Table) → Fin (tcTables nBuf tb) → BufTy
  | .hbm, ⟨0, _⟩ => ⟨S1024x64, .i32⟩
  | .hbm, ⟨1, _⟩ => ⟨S1024x64x28x28, .f32⟩
  | .hbm, ⟨2, _⟩ => ⟨S1024x2, .i32⟩
  | .hbm, ⟨3, _⟩ => ⟨S11x32, .f32⟩
  | .hbm, ⟨4, _⟩ => ⟨S10x32, .f32⟩
  | .hbm, ⟨5, _⟩ => ⟨S2x1024, .f32⟩
  | .hbm, ⟨6, _⟩ => ⟨S64, .i32⟩
  | .hbm, ⟨7, _⟩ => ⟨S1x127, .i32⟩
  | .hbm, ⟨8, _⟩ => ⟨S1x127, .i32⟩
  | .hbm, ⟨9, _⟩ => ⟨S64x1024, .i32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S64x1024, .i32⟩
  | .hbm, ⟨19, _⟩ => ⟨S1x65536, .i32⟩
  | .hbm, ⟨20, _⟩ => ⟨S1x127x1024, .i32⟩
  | .hbm, ⟨21, _⟩ => ⟨S1x130048, .i32⟩
  | .hbm, ⟨22, _⟩ => ⟨S1x127x1024, .i32⟩
  | .hbm, ⟨23, _⟩ => ⟨S1x130048, .i32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1024, .f32⟩
  | .hbm, ⟨29, _⟩ => ⟨S32x32, .f32⟩
  | .hbm, ⟨30, _⟩ => ⟨S10x1024, .f32⟩
  | .hbm, ⟨31, _⟩ => ⟨S1024x10, .f32⟩
  | .local _ .vmem, ⟨0, _⟩ => ⟨S1x65536, .i32⟩
  | .local _ .vmem, ⟨1, _⟩ => ⟨S1024x2, .i32⟩
  | .local _ .vmem, ⟨2, _⟩ => ⟨S1x130048, .i32⟩
  | .local _ .vmem, ⟨3, _⟩ => ⟨S1x130048, .i32⟩
  | .local _ .vmem, ⟨4, _⟩ => ⟨S11x32, .f32⟩
  | .local _ .vmem, ⟨5, _⟩ => ⟨S32x32, .f32⟩
  | .local _ .vmem, ⟨6, _⟩ => ⟨S10x32, .f32⟩
  | .local _ .vmem, ⟨7, _⟩ => ⟨S10x1024, .f32⟩
  | _, _ => ⟨S1024x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_c_2 : Ref sig .tc := ⟨.hbm, 10, rfl⟩
abbrev main_v1 : Ref sig .tc := ⟨.hbm, 11, rfl⟩
abbrev main_v2 : Ref sig .tc := ⟨.hbm, 12, rfl⟩
abbrev main_c_3 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x65536 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x130048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x130048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x64 : Shape := ⟨2, ![1024, 64]⟩
abbrev S1024x64x28x28 : Shape := ⟨4, ![1024, 64, 28, 28]⟩
abbrev S1024x2 : Shape := ⟨2, ![1024, 2]⟩
abbrev S11x32 : Shape := ⟨2, ![11, 32]⟩
abbrev S10x32 : Shape := ⟨2, ![10, 32]⟩
abbrev S2x1024 : Shape := ⟨2, ![2, 1024]⟩
abbrev S_ : Shape := ⟨0, ![]⟩
abbrev S1024x64x1 : Shape := ⟨3, ![1024, 64, 1]⟩
abbrev S1 : Shape := ⟨1, ![1]⟩
abbrev S1x1x1 : Shape := ⟨3, ![1, 1, 1]⟩
abbrev S1024x64x32 : Shape := ⟨3, ![1024, 64, 32]⟩
abbrev S1x32 : Shape := ⟨2, ![1, 32]⟩
abbrev S32 : Shape := ⟨1, ![32]⟩
abbrev S1024x32x32 : Shape := ⟨3, ![1024, 32, 32]⟩
abbrev S1024x32x32x1 : Shape := ⟨4, ![1024, 32, 32, 1]⟩
abbrev S1024x32x1x32 : Shape := ⟨4, ![1024, 32, 1, 32]⟩
abbrev S1024x32x32x32 : Shape := ⟨4, ![1024, 32, 32, 32]⟩
abbrev S1024x32x1024 : Shape := ⟨3, ![1024, 32, 1024]⟩
abbrev S1024x32x2 : Shape := ⟨3, ![1024, 32, 2]⟩
abbrev S1024x32 : Shape := ⟨2, ![1024, 32]⟩
abbrev S1024x32x1 : Shape := ⟨3, ![1024, 32, 1]⟩
abbrev S1024x16x32 : Shape := ⟨3, ![1024, 16, 32]⟩
abbrev S1024x16x32x1 : Shape := ⟨4, ![1024, 16, 32, 1]⟩
abbrev S1024x16x1x32 : Shape := ⟨4, ![1024, 16, 1, 32]⟩
abbrev S1024x16x32x32 : Shape := ⟨4, ![1024, 16, 32, 32]⟩
abbrev S1024x16x1024 : Shape := ⟨3, ![1024, 16, 1024]⟩
abbrev S1024x16x2 : Shape := ⟨3, ![1024, 16, 2]⟩
abbrev S1024x16 : Shape := ⟨2, ![1024, 16]⟩
abbrev S1024x16x1 : Shape := ⟨3, ![1024, 16, 1]⟩
abbrev S1024x8x32 : Shape := ⟨3, ![1024, 8, 32]⟩
abbrev S1024x8x32x1 : Shape := ⟨4, ![1024, 8, 32, 1]⟩
abbrev S1024x8x1x32 : Shape := ⟨4, ![1024, 8, 1, 32]⟩
abbrev S1024x8x32x32 : Shape := ⟨4, ![1024, 8, 32, 32]⟩
abbrev S1024x8x1024 : Shape := ⟨3, ![1024, 8, 1024]⟩
abbrev S1024x8x2 : Shape := ⟨3, ![1024, 8, 2]⟩
abbrev S1024x8 : Shape := ⟨2, ![1024, 8]⟩
abbrev S1024x8x1 : Shape := ⟨3, ![1024, 8, 1]⟩
abbrev S1024x4x32 : Shape := ⟨3, ![1024, 4, 32]⟩
abbrev S1024x4x32x1 : Shape := ⟨4, ![1024, 4, 32, 1]⟩
abbrev S1024x4x1x32 : Shape := ⟨4, ![1024, 4, 1, 32]⟩
abbrev S1024x4x32x32 : Shape := ⟨4, ![1024, 4, 32, 32]⟩
abbrev S1024x4x1024 : Shape := ⟨3, ![1024, 4, 1024]⟩
abbrev S1024x4x2 : Shape := ⟨3, ![1024, 4, 2]⟩
abbrev S1024x4 : Shape := ⟨2, ![1024, 4]⟩
abbrev S1024x4x1 : Shape := ⟨3, ![1024, 4, 1]⟩
abbrev S1024x2x32 : Shape := ⟨3, ![1024, 2, 32]⟩
abbrev S1024x2x32x1 : Shape := ⟨4, ![1024, 2, 32, 1]⟩
abbrev S1024x2x1x32 : Shape := ⟨4, ![1024, 2, 1, 32]⟩
abbrev S1024x2x32x32 : Shape := ⟨4, ![1024, 2, 32, 32]⟩
abbrev S1024x2x1024 : Shape := ⟨3, ![1024, 2, 1024]⟩
abbrev S1024x2x2 : Shape := ⟨3, ![1024, 2, 2]⟩
abbrev S1024x2x1 : Shape := ⟨3, ![1024, 2, 1]⟩
abbrev S1024x1x32 : Shape := ⟨3, ![1024, 1, 32]⟩
abbrev S1024x1x32x1 : Shape := ⟨4, ![1024, 1, 32, 1]⟩
abbrev S1024x1x1x32 : Shape := ⟨4, ![1024, 1, 1, 32]⟩
abbrev S1024x1x32x32 : Shape := ⟨4, ![1024, 1, 32, 32]⟩
abbrev S1024x1x1024 : Shape := ⟨3, ![1024, 1, 1024]⟩
abbrev S1024x1x2 : Shape := ⟨3, ![1024, 1, 2]⟩
abbrev S1024x1 : Shape := ⟨2, ![1024, 1]⟩
abbrev S1024x1x1 : Shape := ⟨3, ![1024, 1, 1]⟩
abbrev S64 : Shape := ⟨1, ![64]⟩
abbrev S1x64 : Shape := ⟨2, ![1, 64]⟩
abbrev S16 : Shape := ⟨1, ![16]⟩
abbrev S1x16 : Shape := ⟨2, ![1, 16]⟩
abbrev S8 : Shape := ⟨1, ![8]⟩
abbrev S1x8 : Shape := ⟨2, ![1, 8]⟩
abbrev S4 : Shape := ⟨1, ![4]⟩
abbrev S1x4 : Shape := ⟨2, ![1, 4]⟩
abbrev S2 : Shape := ⟨1, ![2]⟩
abbrev S1x2 : Shape := ⟨2, ![1, 2]⟩
abbrev S1x1 : Shape := ⟨2, ![1, 1]⟩
abbrev S32x10 : Shape := ⟨2, ![32, 10]⟩
abbrev S1024x10 : Shape := ⟨2, ![1024, 10]⟩

abbrev nBuf : Space → Nat
  | .hbm => 813
  | .vmem => 0
  | .smem => 0
  | _ => 0

abbrev hbmTy0_0 (i : Nat) : BufTy := match i % 128 with
  | 0 => ⟨S1024x64, .i32⟩
  | 1 => ⟨S1024x64x28x28, .f32⟩
  | 2 => ⟨S1024x2, .i32⟩
  | 3 => ⟨S11x32, .f32⟩
  | 4 => ⟨S10x32, .f32⟩
  | 5 => ⟨S2x1024, .f32⟩
  | 6 => ⟨S_, .i32⟩
  | 7 => ⟨S1024x64, .i32⟩
  | 8 => ⟨S1024x64, .i1⟩
  | 9 => ⟨S_, .i32⟩
  | 10 => ⟨S1024x64, .i32⟩
  | 11 => ⟨S1024x64, .i32⟩
  | 12 => ⟨S1024x64, .i32⟩
  | 13 => ⟨S1024x64x1, .i32⟩
  | 14 => ⟨S1, .i32⟩
  | 15 => ⟨S_, .i32⟩
  | 16 => ⟨S1024x64x1, .i32⟩
  | 17 => ⟨S1024x64x1, .i1⟩
  | 18 => ⟨S1x1x1, .i32⟩
  | 19 => ⟨S1024x64x1, .i32⟩
  | 20 => ⟨S1024x64x1, .i1⟩
  | 21 => ⟨S1024x64x1, .i1⟩
  | 22 => ⟨S_, .i1⟩
  | 23 => ⟨S1024x64, .i1⟩
  | 24 => ⟨S1024x64x32, .f32⟩
  | 25 => ⟨S1024x64x32, .i1⟩
  | 26 => ⟨S_, .f32⟩
  | 27 => ⟨S1024x64x32, .f32⟩
  | 28 => ⟨S1024x64x32, .f32⟩
  | 29 => ⟨S1024x64x32, .f32⟩
  | 30 => ⟨S_, .f32⟩
  | 31 => ⟨S1024x64, .f32⟩
  | 32 => ⟨S1024x64x1, .f32⟩
  | 33 => ⟨S_, .f32⟩
  | 34 => ⟨S1024x64x1, .f32⟩
  | 35 => ⟨S1024x64x1, .f32⟩
  | 36 => ⟨S_, .f32⟩
  | 37 => ⟨S1024x64x1, .f32⟩
  | 38 => ⟨S1024x64x1, .f32⟩
  | 39 => ⟨S1024x64x1, .f32⟩
  | 40 => ⟨S_, .f32⟩
  | 41 => ⟨S1024x64x1, .f32⟩
  | 42 => ⟨S1024x64x1, .f32⟩
  | 43 => ⟨S1024x64x32, .f32⟩
  | 44 => ⟨S1024x64x32, .f32⟩
  | 45 => ⟨S1x32, .f32⟩
  | 46 => ⟨S32, .f32⟩
  | 47 => ⟨S1024x32x32, .f32⟩
  | 48 => ⟨S1024x32x32, .f32⟩
  | 49 => ⟨S1024x32x32x1, .f32⟩
  | 50 => ⟨S1024x32x1x32, .f32⟩
  | 51 => ⟨S1024x32x32x32, .f32⟩
  | 52 => ⟨S1024x32x32x32, .f32⟩
  | 53 => ⟨S1024x32x32x32, .f32⟩
  | 54 => ⟨S1024x32x1024, .f32⟩
  | 55 => ⟨S1024x2, .f32⟩
  | 56 => ⟨S1024x32x2, .f32⟩
  | 57 => ⟨S_, .f32⟩
  | 58 => ⟨S1024x32, .f32⟩
  | 59 => ⟨S_, .f32⟩
  | 60 => ⟨S1024x32, .f32⟩
  | 61 => ⟨S1024x32, .f32⟩
  | 62 => ⟨S1024x32x1, .f32⟩
  | 63 => ⟨S1024x32x2, .f32⟩
  | 64 => ⟨S1024x32x2, .f32⟩
  | 65 => ⟨S1024x32x2, .f32⟩
  | 66 => ⟨S_, .f32⟩
  | 67 => ⟨S1024x32, .f32⟩
  | 68 => ⟨S1024x32x1, .f32⟩
  | 69 => ⟨S1024x32x2, .f32⟩
  | 70 => ⟨S1024x32x2, .f32⟩
  | 71 => ⟨S1024x32x1, .f32⟩
  | 72 => ⟨S1024x32x32, .f32⟩
  | 73 => ⟨S1024x32x32, .f32⟩
  | 74 => ⟨S1024x32x1, .f32⟩
  | 75 => ⟨S1024x32x32, .f32⟩
  | 76 => ⟨S1024x32x32, .f32⟩
  | 77 => ⟨S1024x32x32, .f32⟩
  | 78 => ⟨S1024x32x32, .f32⟩
  | 79 => ⟨S_, .f32⟩
  | 80 => ⟨S1024x32, .f32⟩
  | 81 => ⟨S1024x32x1, .f32⟩
  | 82 => ⟨S_, .f32⟩
  | 83 => ⟨S1024x32x1, .f32⟩
  | 84 => ⟨S1024x32x1, .f32⟩
  | 85 => ⟨S_, .f32⟩
  | 86 => ⟨S1024x32x1, .f32⟩
  | 87 => ⟨S1024x32x1, .f32⟩
  | 88 => ⟨S1024x32x1, .f32⟩
  | 89 => ⟨S_, .f32⟩
  | 90 => ⟨S1024x32x1, .f32⟩
  | 91 => ⟨S1024x32x1, .f32⟩
  | 92 => ⟨S1024x32x32, .f32⟩
  | 93 => ⟨S1024x32x32, .f32⟩
  | 94 => ⟨S1024x16x32, .f32⟩
  | 95 => ⟨S1024x16x32, .f32⟩
  | 96 => ⟨S1024x16x32x1, .f32⟩
  | 97 => ⟨S1024x16x1x32, .f32⟩
  | 98 => ⟨S1024x16x32x32, .f32⟩
  | 99 => ⟨S1024x16x32x32, .f32⟩
  | 100 => ⟨S1024x16x32x32, .f32⟩
  | 101 => ⟨S1024x16x1024, .f32⟩
  | 102 => ⟨S1024x2, .f32⟩
  | 103 => ⟨S1024x16x2, .f32⟩
  | 104 => ⟨S_, .f32⟩
  | 105 => ⟨S1024x16, .f32⟩
  | 106 => ⟨S_, .f32⟩
  | 107 => ⟨S1024x16, .f32⟩
  | 108 => ⟨S1024x16, .f32⟩
  | 109 => ⟨S1024x16x1, .f32⟩
  | 110 => ⟨S1024x16x2, .f32⟩
  | 111 => ⟨S1024x16x2, .f32⟩
  | 112 => ⟨S1024x16x2, .f32⟩
  | 113 => ⟨S_, .f32⟩
  | 114 => ⟨S1024x16, .f32⟩
  | 115 => ⟨S1024x16x1, .f32⟩
  | 116 => ⟨S1024x16x2, .f32⟩
  | 117 => ⟨S1024x16x2, .f32⟩
  | 118 => ⟨S1024x16x1, .f32⟩
  | 119 => ⟨S1024x16x32, .f32⟩
  | 120 => ⟨S1024x16x32, .f32⟩
  | 121 => ⟨S1024x16x1, .f32⟩
  | 122 => ⟨S1024x16x32, .f32⟩
  | 123 => ⟨S1024x16x32, .f32⟩
  | 124 => ⟨S1024x16x32, .f32⟩
  | 125 => ⟨S1024x16x32, .f32⟩
  | 126 => ⟨S_, .f32⟩
  | 127 => ⟨S1024x16, .f32⟩
  | _ => ⟨S1024x64, .i32⟩

abbrev hbmTy0_1 (i : Nat) : BufTy := match i % 128 with
  | 0 => ⟨S1024x16x1, .f32⟩
  | 1 => ⟨S_, .f32⟩
  | 2 => ⟨S1024x16x1, .f32⟩
  | 3 => ⟨S1024x16x1, .f32⟩
  | 4 => ⟨S_, .f32⟩
  | 5 => ⟨S1024x16x1, .f32⟩
  | 6 => ⟨S1024x16x1, .f32⟩
  | 7 => ⟨S1024x16x1, .f32⟩
  | 8 => ⟨S_, .f32⟩
  | 9 => ⟨S1024x16x1, .f32⟩
  | 10 => ⟨S1024x16x1, .f32⟩
  | 11 => ⟨S1024x16x32, .f32⟩
  | 12 => ⟨S1024x16x32, .f32⟩
  | 13 => ⟨S1024x8x32, .f32⟩
  | 14 => ⟨S1024x8x32, .f32⟩
  | 15 => ⟨S1024x8x32x1, .f32⟩
  | 16 => ⟨S1024x8x1x32, .f32⟩
  | 17 => ⟨S1024x8x32x32, .f32⟩
  | 18 => ⟨S1024x8x32x32, .f32⟩
  | 19 => ⟨S1024x8x32x32, .f32⟩
  | 20 => ⟨S1024x8x1024, .f32⟩
  | 21 => ⟨S1024x2, .f32⟩
  | 22 => ⟨S1024x8x2, .f32⟩
  | 23 => ⟨S_, .f32⟩
  | 24 => ⟨S1024x8, .f32⟩
  | 25 => ⟨S_, .f32⟩
  | 26 => ⟨S1024x8, .f32⟩
  | 27 => ⟨S1024x8, .f32⟩
  | 28 => ⟨S1024x8x1, .f32⟩
  | 29 => ⟨S1024x8x2, .f32⟩
  | 30 => ⟨S1024x8x2, .f32⟩
  | 31 => ⟨S1024x8x2, .f32⟩
  | 32 => ⟨S_, .f32⟩
  | 33 => ⟨S1024x8, .f32⟩
  | 34 => ⟨S1024x8x1, .f32⟩
  | 35 => ⟨S1024x8x2, .f32⟩
  | 36 => ⟨S1024x8x2, .f32⟩
  | 37 => ⟨S1024x8x1, .f32⟩
  | 38 => ⟨S1024x8x32, .f32⟩
  | 39 => ⟨S1024x8x32, .f32⟩
  | 40 => ⟨S1024x8x1, .f32⟩
  | 41 => ⟨S1024x8x32, .f32⟩
  | 42 => ⟨S1024x8x32, .f32⟩
  | 43 => ⟨S1024x8x32, .f32⟩
  | 44 => ⟨S1024x8x32, .f32⟩
  | 45 => ⟨S_, .f32⟩
  | 46 => ⟨S1024x8, .f32⟩
  | 47 => ⟨S1024x8x1, .f32⟩
  | 48 => ⟨S_, .f32⟩
  | 49 => ⟨S1024x8x1, .f32⟩
  | 50 => ⟨S1024x8x1, .f32⟩
  | 51 => ⟨S_, .f32⟩
  | 52 => ⟨S1024x8x1, .f32⟩
  | 53 => ⟨S1024x8x1, .f32⟩
  | 54 => ⟨S1024x8x1, .f32⟩
  | 55 => ⟨S_, .f32⟩
  | 56 => ⟨S1024x8x1, .f32⟩
  | 57 => ⟨S1024x8x1, .f32⟩
  | 58 => ⟨S1024x8x32, .f32⟩
  | 59 => ⟨S1024x8x32, .f32⟩
  | 60 => ⟨S1024x4x32, .f32⟩
  | 61 => ⟨S1024x4x32, .f32⟩
  | 62 => ⟨S1024x4x32x1, .f32⟩
  | 63 => ⟨S1024x4x1x32, .f32⟩
  | 64 => ⟨S1024x4x32x32, .f32⟩
  | 65 => ⟨S1024x4x32x32, .f32⟩
  | 66 => ⟨S1024x4x32x32, .f32⟩
  | 67 => ⟨S1024x4x1024, .f32⟩
  | 68 => ⟨S1024x2, .f32⟩
  | 69 => ⟨S1024x4x2, .f32⟩
  | 70 => ⟨S_, .f32⟩
  | 71 => ⟨S1024x4, .f32⟩
  | 72 => ⟨S_, .f32⟩
  | 73 => ⟨S1024x4, .f32⟩
  | 74 => ⟨S1024x4, .f32⟩
  | 75 => ⟨S1024x4x1, .f32⟩
  | 76 => ⟨S1024x4x2, .f32⟩
  | 77 => ⟨S1024x4x2, .f32⟩
  | 78 => ⟨S1024x4x2, .f32⟩
  | 79 => ⟨S_, .f32⟩
  | 80 => ⟨S1024x4, .f32⟩
  | 81 => ⟨S1024x4x1, .f32⟩
  | 82 => ⟨S1024x4x2, .f32⟩
  | 83 => ⟨S1024x4x2, .f32⟩
  | 84 => ⟨S1024x4x1, .f32⟩
  | 85 => ⟨S1024x4x32, .f32⟩
  | 86 => ⟨S1024x4x32, .f32⟩
  | 87 => ⟨S1024x4x1, .f32⟩
  | 88 => ⟨S1024x4x32, .f32⟩
  | 89 => ⟨S1024x4x32, .f32⟩
  | 90 => ⟨S1024x4x32, .f32⟩
  | 91 => ⟨S1024x4x32, .f32⟩
  | 92 => ⟨S_, .f32⟩
  | 93 => ⟨S1024x4, .f32⟩
  | 94 => ⟨S1024x4x1, .f32⟩
  | 95 => ⟨S_, .f32⟩
  | 96 => ⟨S1024x4x1, .f32⟩
  | 97 => ⟨S1024x4x1, .f32⟩
  | 98 => ⟨S_, .f32⟩
  | 99 => ⟨S1024x4x1, .f32⟩
  | 100 => ⟨S1024x4x1, .f32⟩
  | 101 => ⟨S1024x4x1, .f32⟩
  | 102 => ⟨S_, .f32⟩
  | 103 => ⟨S1024x4x1, .f32⟩
  | 104 => ⟨S1024x4x1, .f32⟩
  | 105 => ⟨S1024x4x32, .f32⟩
  | 106 => ⟨S1024x4x32, .f32⟩
  | 107 => ⟨S1024x2x32, .f32⟩
  | 108 => ⟨S1024x2x32, .f32⟩
  | 109 => ⟨S1024x2x32x1, .f32⟩
  | 110 => ⟨S1024x2x1x32, .f32⟩
  | 111 => ⟨S1024x2x32x32, .f32⟩
  | 112 => ⟨S1024x2x32x32, .f32⟩
  | 113 => ⟨S1024x2x32x32, .f32⟩
  | 114 => ⟨S1024x2x1024, .f32⟩
  | 115 => ⟨S1024x2, .f32⟩
  | 116 => ⟨S1024x2x2, .f32⟩
  | 117 => ⟨S_, .f32⟩
  | 118 => ⟨S1024x2, .f32⟩
  | 119 => ⟨S_, .f32⟩
  | 120 => ⟨S1024x2, .f32⟩
  | 121 => ⟨S1024x2, .f32⟩
  | 122 => ⟨S1024x2x1, .f32⟩
  | 123 => ⟨S1024x2x2, .f32⟩
  | 124 => ⟨S1024x2x2, .f32⟩
  | 125 => ⟨S1024x2x2, .f32⟩
  | 126 => ⟨S_, .f32⟩
  | 127 => ⟨S1024x2, .f32⟩
  | _ => ⟨S1024x64, .i32⟩

abbrev hbmTy0_2 (i : Nat) : BufTy := match i % 128 with
  | 0 => ⟨S1024x2x1, .f32⟩
  | 1 => ⟨S1024x2x2, .f32⟩
  | 2 => ⟨S1024x2x2, .f32⟩
  | 3 => ⟨S1024x2x1, .f32⟩
  | 4 => ⟨S1024x2x32, .f32⟩
  | 5 => ⟨S1024x2x32, .f32⟩
  | 6 => ⟨S1024x2x1, .f32⟩
  | 7 => ⟨S1024x2x32, .f32⟩
  | 8 => ⟨S1024x2x32, .f32⟩
  | 9 => ⟨S1024x2x32, .f32⟩
  | 10 => ⟨S1024x2x32, .f32⟩
  | 11 => ⟨S_, .f32⟩
  | 12 => ⟨S1024x2, .f32⟩
  | 13 => ⟨S1024x2x1, .f32⟩
  | 14 => ⟨S_, .f32⟩
  | 15 => ⟨S1024x2x1, .f32⟩
  | 16 => ⟨S1024x2x1, .f32⟩
  | 17 => ⟨S_, .f32⟩
  | 18 => ⟨S1024x2x1, .f32⟩
  | 19 => ⟨S1024x2x1, .f32⟩
  | 20 => ⟨S1024x2x1, .f32⟩
  | 21 => ⟨S_, .f32⟩
  | 22 => ⟨S1024x2x1, .f32⟩
  | 23 => ⟨S1024x2x1, .f32⟩
  | 24 => ⟨S1024x2x32, .f32⟩
  | 25 => ⟨S1024x2x32, .f32⟩
  | 26 => ⟨S1024x1x32, .f32⟩
  | 27 => ⟨S1024x1x32, .f32⟩
  | 28 => ⟨S1024x1x32x1, .f32⟩
  | 29 => ⟨S1024x1x1x32, .f32⟩
  | 30 => ⟨S1024x1x32x32, .f32⟩
  | 31 => ⟨S1024x1x32x32, .f32⟩
  | 32 => ⟨S1024x1x32x32, .f32⟩
  | 33 => ⟨S1024x1x1024, .f32⟩
  | 34 => ⟨S1024x2, .f32⟩
  | 35 => ⟨S1024x1x2, .f32⟩
  | 36 => ⟨S_, .f32⟩
  | 37 => ⟨S1024x1, .f32⟩
  | 38 => ⟨S_, .f32⟩
  | 39 => ⟨S1024x1, .f32⟩
  | 40 => ⟨S1024x1, .f32⟩
  | 41 => ⟨S1024x1x1, .f32⟩
  | 42 => ⟨S1024x1x2, .f32⟩
  | 43 => ⟨S1024x1x2, .f32⟩
  | 44 => ⟨S1024x1x2, .f32⟩
  | 45 => ⟨S_, .f32⟩
  | 46 => ⟨S1024x1, .f32⟩
  | 47 => ⟨S1024x1x1, .f32⟩
  | 48 => ⟨S1024x1x2, .f32⟩
  | 49 => ⟨S1024x1x2, .f32⟩
  | 50 => ⟨S1024x1x1, .f32⟩
  | 51 => ⟨S1024x1x32, .f32⟩
  | 52 => ⟨S1024x1x32, .f32⟩
  | 53 => ⟨S1024x1x1, .f32⟩
  | 54 => ⟨S1024x1x32, .f32⟩
  | 55 => ⟨S1024x1x32, .f32⟩
  | 56 => ⟨S1024x1x32, .f32⟩
  | 57 => ⟨S1024x1x32, .f32⟩
  | 58 => ⟨S_, .f32⟩
  | 59 => ⟨S1024x1, .f32⟩
  | 60 => ⟨S1024x1x1, .f32⟩
  | 61 => ⟨S_, .f32⟩
  | 62 => ⟨S1024x1x1, .f32⟩
  | 63 => ⟨S1024x1x1, .f32⟩
  | 64 => ⟨S_, .f32⟩
  | 65 => ⟨S1024x1x1, .f32⟩
  | 66 => ⟨S1024x1x1, .f32⟩
  | 67 => ⟨S1024x1x1, .f32⟩
  | 68 => ⟨S_, .f32⟩
  | 69 => ⟨S1024x1x1, .f32⟩
  | 70 => ⟨S1024x1x1, .f32⟩
  | 71 => ⟨S1024x1x32, .f32⟩
  | 72 => ⟨S1024x1x32, .f32⟩
  | 73 => ⟨S1024x1, .i32⟩
  | 74 => ⟨S1024x1, .i32⟩
  | 75 => ⟨S64, .i32⟩
  | 76 => ⟨S1x64, .i32⟩
  | 77 => ⟨S_, .i32⟩
  | 78 => ⟨S1x64, .i32⟩
  | 79 => ⟨S1x64, .i32⟩
  | 80 => ⟨S_, .i32⟩
  | 81 => ⟨S1x64, .i32⟩
  | 82 => ⟨S1x64, .i32⟩
  | 83 => ⟨S1024x64, .i32⟩
  | 84 => ⟨S1024x64, .i32⟩
  | 85 => ⟨S1024x64, .i1⟩
  | 86 => ⟨S1024x64, .i32⟩
  | 87 => ⟨S1024x64, .i32⟩
  | 88 => ⟨S1024x64, .i1⟩
  | 89 => ⟨S1024x64, .i1⟩
  | 90 => ⟨S1024x64x1, .i1⟩
  | 91 => ⟨S1024x64, .i32⟩
  | 92 => ⟨S1024x64, .i32⟩
  | 93 => ⟨S1024x64, .i1⟩
  | 94 => ⟨S1024x64, .i32⟩
  | 95 => ⟨S1024x64, .i32⟩
  | 96 => ⟨S1024x64, .i1⟩
  | 97 => ⟨S1024x64, .i1⟩
  | 98 => ⟨S1024x64x1, .i1⟩
  | 99 => ⟨S1024x64x32, .i1⟩
  | 100 => ⟨S1024x64x32, .f32⟩
  | 101 => ⟨S1024x64x32, .f32⟩
  | 102 => ⟨S32, .i32⟩
  | 103 => ⟨S1x32, .i32⟩
  | 104 => ⟨S_, .i32⟩
  | 105 => ⟨S1x32, .i32⟩
  | 106 => ⟨S1x32, .i32⟩
  | 107 => ⟨S_, .i32⟩
  | 108 => ⟨S1x32, .i32⟩
  | 109 => ⟨S1x32, .i32⟩
  | 110 => ⟨S1024x32, .i32⟩
  | 111 => ⟨S1024x32, .i32⟩
  | 112 => ⟨S1024x32, .i1⟩
  | 113 => ⟨S1024x32, .i32⟩
  | 114 => ⟨S1024x32, .i32⟩
  | 115 => ⟨S1024x32, .i1⟩
  | 116 => ⟨S1024x32, .i1⟩
  | 117 => ⟨S1024x32x1, .i1⟩
  | 118 => ⟨S1024x32, .i32⟩
  | 119 => ⟨S1024x32, .i32⟩
  | 120 => ⟨S1024x32, .i1⟩
  | 121 => ⟨S1024x32, .i32⟩
  | 122 => ⟨S1024x32, .i32⟩
  | 123 => ⟨S1024x32, .i1⟩
  | 124 => ⟨S1024x32, .i1⟩
  | 125 => ⟨S1024x32x1, .i1⟩
  | 126 => ⟨S1024x32x32, .f32⟩
  | 127 => ⟨S1024x32x32, .f32⟩
  | _ => ⟨S1024x64, .i32⟩

abbrev hbmTy0_3 (i : Nat) : BufTy := match i % 128 with
  | 0 => ⟨S1024x32x32x1, .f32⟩
  | 1 => ⟨S1024x32x1x32, .f32⟩
  | 2 => ⟨S1024x32x32x32, .f32⟩
  | 3 => ⟨S1024x32x32x32, .f32⟩
  | 4 => ⟨S1024x32x32x32, .f32⟩
  | 5 => ⟨S1024x32x1024, .f32⟩
  | 6 => ⟨S1024x2, .f32⟩
  | 7 => ⟨S1024x32x2, .f32⟩
  | 8 => ⟨S_, .f32⟩
  | 9 => ⟨S1024x32, .f32⟩
  | 10 => ⟨S_, .f32⟩
  | 11 => ⟨S1024x32, .f32⟩
  | 12 => ⟨S1024x32, .f32⟩
  | 13 => ⟨S1024x32x1, .f32⟩
  | 14 => ⟨S1024x32x2, .f32⟩
  | 15 => ⟨S1024x32x2, .f32⟩
  | 16 => ⟨S1024x32x2, .f32⟩
  | 17 => ⟨S_, .f32⟩
  | 18 => ⟨S1024x32, .f32⟩
  | 19 => ⟨S1024x32x1, .f32⟩
  | 20 => ⟨S1024x32x2, .f32⟩
  | 21 => ⟨S1024x32x2, .f32⟩
  | 22 => ⟨S1024x32x1, .f32⟩
  | 23 => ⟨S1024x32x32, .f32⟩
  | 24 => ⟨S1024x32x32, .f32⟩
  | 25 => ⟨S1024x32x1, .f32⟩
  | 26 => ⟨S1024x32x32, .f32⟩
  | 27 => ⟨S1024x32x32, .f32⟩
  | 28 => ⟨S1024x32x32, .f32⟩
  | 29 => ⟨S1024x32x32, .f32⟩
  | 30 => ⟨S_, .f32⟩
  | 31 => ⟨S1024x32, .f32⟩
  | 32 => ⟨S1024x32x1, .f32⟩
  | 33 => ⟨S_, .f32⟩
  | 34 => ⟨S1024x32x1, .f32⟩
  | 35 => ⟨S1024x32x1, .f32⟩
  | 36 => ⟨S_, .f32⟩
  | 37 => ⟨S1024x32x1, .f32⟩
  | 38 => ⟨S1024x32x1, .f32⟩
  | 39 => ⟨S1024x32x1, .f32⟩
  | 40 => ⟨S_, .f32⟩
  | 41 => ⟨S1024x32x1, .f32⟩
  | 42 => ⟨S1024x32x1, .f32⟩
  | 43 => ⟨S1024x32x32, .f32⟩
  | 44 => ⟨S1024x32x32, .f32⟩
  | 45 => ⟨S1024x32x32, .f32⟩
  | 46 => ⟨S1024x32x32, .i1⟩
  | 47 => ⟨S1024x32x32, .f32⟩
  | 48 => ⟨S1024x32x32, .i1⟩
  | 49 => ⟨S1024x32x32, .f32⟩
  | 50 => ⟨S16, .i32⟩
  | 51 => ⟨S1x16, .i32⟩
  | 52 => ⟨S_, .i32⟩
  | 53 => ⟨S1x16, .i32⟩
  | 54 => ⟨S1x16, .i32⟩
  | 55 => ⟨S_, .i32⟩
  | 56 => ⟨S1x16, .i32⟩
  | 57 => ⟨S1x16, .i32⟩
  | 58 => ⟨S1024x16, .i32⟩
  | 59 => ⟨S1024x16, .i32⟩
  | 60 => ⟨S1024x16, .i1⟩
  | 61 => ⟨S1024x16, .i32⟩
  | 62 => ⟨S1024x16, .i32⟩
  | 63 => ⟨S1024x16, .i1⟩
  | 64 => ⟨S1024x16, .i1⟩
  | 65 => ⟨S1024x16x1, .i1⟩
  | 66 => ⟨S1024x16, .i32⟩
  | 67 => ⟨S1024x16, .i32⟩
  | 68 => ⟨S1024x16, .i1⟩
  | 69 => ⟨S1024x16, .i32⟩
  | 70 => ⟨S1024x16, .i32⟩
  | 71 => ⟨S1024x16, .i1⟩
  | 72 => ⟨S1024x16, .i1⟩
  | 73 => ⟨S1024x16x1, .i1⟩
  | 74 => ⟨S1024x16x32, .f32⟩
  | 75 => ⟨S1024x16x32, .f32⟩
  | 76 => ⟨S1024x16x32x1, .f32⟩
  | 77 => ⟨S1024x16x1x32, .f32⟩
  | 78 => ⟨S1024x16x32x32, .f32⟩
  | 79 => ⟨S1024x16x32x32, .f32⟩
  | 80 => ⟨S1024x16x32x32, .f32⟩
  | 81 => ⟨S1024x16x1024, .f32⟩
  | 82 => ⟨S1024x2, .f32⟩
  | 83 => ⟨S1024x16x2, .f32⟩
  | 84 => ⟨S_, .f32⟩
  | 85 => ⟨S1024x16, .f32⟩
  | 86 => ⟨S_, .f32⟩
  | 87 => ⟨S1024x16, .f32⟩
  | 88 => ⟨S1024x16, .f32⟩
  | 89 => ⟨S1024x16x1, .f32⟩
  | 90 => ⟨S1024x16x2, .f32⟩
  | 91 => ⟨S1024x16x2, .f32⟩
  | 92 => ⟨S1024x16x2, .f32⟩
  | 93 => ⟨S_, .f32⟩
  | 94 => ⟨S1024x16, .f32⟩
  | 95 => ⟨S1024x16x1, .f32⟩
  | 96 => ⟨S1024x16x2, .f32⟩
  | 97 => ⟨S1024x16x2, .f32⟩
  | 98 => ⟨S1024x16x1, .f32⟩
  | 99 => ⟨S1024x16x32, .f32⟩
  | 100 => ⟨S1024x16x32, .f32⟩
  | 101 => ⟨S1024x16x1, .f32⟩
  | 102 => ⟨S1024x16x32, .f32⟩
  | 103 => ⟨S1024x16x32, .f32⟩
  | 104 => ⟨S1024x16x32, .f32⟩
  | 105 => ⟨S1024x16x32, .f32⟩
  | 106 => ⟨S_, .f32⟩
  | 107 => ⟨S1024x16, .f32⟩
  | 108 => ⟨S1024x16x1, .f32⟩
  | 109 => ⟨S_, .f32⟩
  | 110 => ⟨S1024x16x1, .f32⟩
  | 111 => ⟨S1024x16x1, .f32⟩
  | 112 => ⟨S_, .f32⟩
  | 113 => ⟨S1024x16x1, .f32⟩
  | 114 => ⟨S1024x16x1, .f32⟩
  | 115 => ⟨S1024x16x1, .f32⟩
  | 116 => ⟨S_, .f32⟩
  | 117 => ⟨S1024x16x1, .f32⟩
  | 118 => ⟨S1024x16x1, .f32⟩
  | 119 => ⟨S1024x16x32, .f32⟩
  | 120 => ⟨S1024x16x32, .f32⟩
  | 121 => ⟨S1024x16x32, .f32⟩
  | 122 => ⟨S1024x16x32, .i1⟩
  | 123 => ⟨S1024x16x32, .f32⟩
  | 124 => ⟨S1024x16x32, .i1⟩
  | 125 => ⟨S1024x16x32, .f32⟩
  | 126 => ⟨S8, .i32⟩
  | 127 => ⟨S1x8, .i32⟩
  | _ => ⟨S1024x64, .i32⟩

abbrev hbmTy0_4 (i : Nat) : BufTy := match i % 128 with
  | 0 => ⟨S_, .i32⟩
  | 1 => ⟨S1x8, .i32⟩
  | 2 => ⟨S1x8, .i32⟩
  | 3 => ⟨S_, .i32⟩
  | 4 => ⟨S1x8, .i32⟩
  | 5 => ⟨S1x8, .i32⟩
  | 6 => ⟨S1024x8, .i32⟩
  | 7 => ⟨S1024x8, .i32⟩
  | 8 => ⟨S1024x8, .i1⟩
  | 9 => ⟨S1024x8, .i32⟩
  | 10 => ⟨S1024x8, .i32⟩
  | 11 => ⟨S1024x8, .i1⟩
  | 12 => ⟨S1024x8, .i1⟩
  | 13 => ⟨S1024x8x1, .i1⟩
  | 14 => ⟨S1024x8, .i32⟩
  | 15 => ⟨S1024x8, .i32⟩
  | 16 => ⟨S1024x8, .i1⟩
  | 17 => ⟨S1024x8, .i32⟩
  | 18 => ⟨S1024x8, .i32⟩
  | 19 => ⟨S1024x8, .i1⟩
  | 20 => ⟨S1024x8, .i1⟩
  | 21 => ⟨S1024x8x1, .i1⟩
  | 22 => ⟨S1024x8x32, .f32⟩
  | 23 => ⟨S1024x8x32, .f32⟩
  | 24 => ⟨S1024x8x32x1, .f32⟩
  | 25 => ⟨S1024x8x1x32, .f32⟩
  | 26 => ⟨S1024x8x32x32, .f32⟩
  | 27 => ⟨S1024x8x32x32, .f32⟩
  | 28 => ⟨S1024x8x32x32, .f32⟩
  | 29 => ⟨S1024x8x1024, .f32⟩
  | 30 => ⟨S1024x2, .f32⟩
  | 31 => ⟨S1024x8x2, .f32⟩
  | 32 => ⟨S_, .f32⟩
  | 33 => ⟨S1024x8, .f32⟩
  | 34 => ⟨S_, .f32⟩
  | 35 => ⟨S1024x8, .f32⟩
  | 36 => ⟨S1024x8, .f32⟩
  | 37 => ⟨S1024x8x1, .f32⟩
  | 38 => ⟨S1024x8x2, .f32⟩
  | 39 => ⟨S1024x8x2, .f32⟩
  | 40 => ⟨S1024x8x2, .f32⟩
  | 41 => ⟨S_, .f32⟩
  | 42 => ⟨S1024x8, .f32⟩
  | 43 => ⟨S1024x8x1, .f32⟩
  | 44 => ⟨S1024x8x2, .f32⟩
  | 45 => ⟨S1024x8x2, .f32⟩
  | 46 => ⟨S1024x8x1, .f32⟩
  | 47 => ⟨S1024x8x32, .f32⟩
  | 48 => ⟨S1024x8x32, .f32⟩
  | 49 => ⟨S1024x8x1, .f32⟩
  | 50 => ⟨S1024x8x32, .f32⟩
  | 51 => ⟨S1024x8x32, .f32⟩
  | 52 => ⟨S1024x8x32, .f32⟩
  | 53 => ⟨S1024x8x32, .f32⟩
  | 54 => ⟨S_, .f32⟩
  | 55 => ⟨S1024x8, .f32⟩
  | 56 => ⟨S1024x8x1, .f32⟩
  | 57 => ⟨S_, .f32⟩
  | 58 => ⟨S1024x8x1, .f32⟩
  | 59 => ⟨S1024x8x1, .f32⟩
  | 60 => ⟨S_, .f32⟩
  | 61 => ⟨S1024x8x1, .f32⟩
  | 62 => ⟨S1024x8x1, .f32⟩
  | 63 => ⟨S1024x8x1, .f32⟩
  | 64 => ⟨S_, .f32⟩
  | 65 => ⟨S1024x8x1, .f32⟩
  | 66 => ⟨S1024x8x1, .f32⟩
  | 67 => ⟨S1024x8x32, .f32⟩
  | 68 => ⟨S1024x8x32, .f32⟩
  | 69 => ⟨S1024x8x32, .f32⟩
  | 70 => ⟨S1024x8x32, .i1⟩
  | 71 => ⟨S1024x8x32, .f32⟩
  | 72 => ⟨S1024x8x32, .i1⟩
  | 73 => ⟨S1024x8x32, .f32⟩
  | 74 => ⟨S4, .i32⟩
  | 75 => ⟨S1x4, .i32⟩
  | 76 => ⟨S_, .i32⟩
  | 77 => ⟨S1x4, .i32⟩
  | 78 => ⟨S1x4, .i32⟩
  | 79 => ⟨S_, .i32⟩
  | 80 => ⟨S1x4, .i32⟩
  | 81 => ⟨S1x4, .i32⟩
  | 82 => ⟨S1024x4, .i32⟩
  | 83 => ⟨S1024x4, .i32⟩
  | 84 => ⟨S1024x4, .i1⟩
  | 85 => ⟨S1024x4, .i32⟩
  | 86 => ⟨S1024x4, .i32⟩
  | 87 => ⟨S1024x4, .i1⟩
  | 88 => ⟨S1024x4, .i1⟩
  | 89 => ⟨S1024x4x1, .i1⟩
  | 90 => ⟨S1024x4, .i32⟩
  | 91 => ⟨S1024x4, .i32⟩
  | 92 => ⟨S1024x4, .i1⟩
  | 93 => ⟨S1024x4, .i32⟩
  | 94 => ⟨S1024x4, .i32⟩
  | 95 => ⟨S1024x4, .i1⟩
  | 96 => ⟨S1024x4, .i1⟩
  | 97 => ⟨S1024x4x1, .i1⟩
  | 98 => ⟨S1024x4x32, .f32⟩
  | 99 => ⟨S1024x4x32, .f32⟩
  | 100 => ⟨S1024x4x32x1, .f32⟩
  | 101 => ⟨S1024x4x1x32, .f32⟩
  | 102 => ⟨S1024x4x32x32, .f32⟩
  | 103 => ⟨S1024x4x32x32, .f32⟩
  | 104 => ⟨S1024x4x32x32, .f32⟩
  | 105 => ⟨S1024x4x1024, .f32⟩
  | 106 => ⟨S1024x2, .f32⟩
  | 107 => ⟨S1024x4x2, .f32⟩
  | 108 => ⟨S_, .f32⟩
  | 109 => ⟨S1024x4, .f32⟩
  | 110 => ⟨S_, .f32⟩
  | 111 => ⟨S1024x4, .f32⟩
  | 112 => ⟨S1024x4, .f32⟩
  | 113 => ⟨S1024x4x1, .f32⟩
  | 114 => ⟨S1024x4x2, .f32⟩
  | 115 => ⟨S1024x4x2, .f32⟩
  | 116 => ⟨S1024x4x2, .f32⟩
  | 117 => ⟨S_, .f32⟩
  | 118 => ⟨S1024x4, .f32⟩
  | 119 => ⟨S1024x4x1, .f32⟩
  | 120 => ⟨S1024x4x2, .f32⟩
  | 121 => ⟨S1024x4x2, .f32⟩
  | 122 => ⟨S1024x4x1, .f32⟩
  | 123 => ⟨S1024x4x32, .f32⟩
  | 124 => ⟨S1024x4x32, .f32⟩
  | 125 => ⟨S1024x4x1, .f32⟩
  | 126 => ⟨S1024x4x32, .f32⟩
  | 127 => ⟨S1024x4x32, .f32⟩
  | _ => ⟨S1024x64, .i32⟩

abbrev hbmTy0_5 (i : Nat) : BufTy := match i % 128 with
  | 0 => ⟨S1024x4x32, .f32⟩
  | 1 => ⟨S1024x4x32, .f32⟩
  | 2 => ⟨S_, .f32⟩
  | 3 => ⟨S1024x4, .f32⟩
  | 4 => ⟨S1024x4x1, .f32⟩
  | 5 => ⟨S_, .f32⟩
  | 6 => ⟨S1024x4x1, .f32⟩
  | 7 => ⟨S1024x4x1, .f32⟩
  | 8 => ⟨S_, .f32⟩
  | 9 => ⟨S1024x4x1, .f32⟩
  | 10 => ⟨S1024x4x1, .f32⟩
  | 11 => ⟨S1024x4x1, .f32⟩
  | 12 => ⟨S_, .f32⟩
  | 13 => ⟨S1024x4x1, .f32⟩
  | 14 => ⟨S1024x4x1, .f32⟩
  | 15 => ⟨S1024x4x32, .f32⟩
  | 16 => ⟨S1024x4x32, .f32⟩
  | 17 => ⟨S1024x4x32, .f32⟩
  | 18 => ⟨S1024x4x32, .i1⟩
  | 19 => ⟨S1024x4x32, .f32⟩
  | 20 => ⟨S1024x4x32, .i1⟩
  | 21 => ⟨S1024x4x32, .f32⟩
  | 22 => ⟨S2, .i32⟩
  | 23 => ⟨S1x2, .i32⟩
  | 24 => ⟨S_, .i32⟩
  | 25 => ⟨S1x2, .i32⟩
  | 26 => ⟨S1x2, .i32⟩
  | 27 => ⟨S_, .i32⟩
  | 28 => ⟨S1x2, .i32⟩
  | 29 => ⟨S1x2, .i32⟩
  | 30 => ⟨S1024x2, .i32⟩
  | 31 => ⟨S1024x2, .i32⟩
  | 32 => ⟨S1024x2, .i1⟩
  | 33 => ⟨S1024x2, .i32⟩
  | 34 => ⟨S1024x2, .i32⟩
  | 35 => ⟨S1024x2, .i1⟩
  | 36 => ⟨S1024x2, .i1⟩
  | 37 => ⟨S1024x2x1, .i1⟩
  | 38 => ⟨S1024x2, .i32⟩
  | 39 => ⟨S1024x2, .i32⟩
  | 40 => ⟨S1024x2, .i1⟩
  | 41 => ⟨S1024x2, .i32⟩
  | 42 => ⟨S1024x2, .i32⟩
  | 43 => ⟨S1024x2, .i1⟩
  | 44 => ⟨S1024x2, .i1⟩
  | 45 => ⟨S1024x2x1, .i1⟩
  | 46 => ⟨S1024x2x32, .f32⟩
  | 47 => ⟨S1024x2x32, .f32⟩
  | 48 => ⟨S1024x2x32x1, .f32⟩
  | 49 => ⟨S1024x2x1x32, .f32⟩
  | 50 => ⟨S1024x2x32x32, .f32⟩
  | 51 => ⟨S1024x2x32x32, .f32⟩
  | 52 => ⟨S1024x2x32x32, .f32⟩
  | 53 => ⟨S1024x2x1024, .f32⟩
  | 54 => ⟨S1024x2, .f32⟩
  | 55 => ⟨S1024x2x2, .f32⟩
  | 56 => ⟨S_, .f32⟩
  | 57 => ⟨S1024x2, .f32⟩
  | 58 => ⟨S_, .f32⟩
  | 59 => ⟨S1024x2, .f32⟩
  | 60 => ⟨S1024x2, .f32⟩
  | 61 => ⟨S1024x2x1, .f32⟩
  | 62 => ⟨S1024x2x2, .f32⟩
  | 63 => ⟨S1024x2x2, .f32⟩
  | 64 => ⟨S1024x2x2, .f32⟩
  | 65 => ⟨S_, .f32⟩
  | 66 => ⟨S1024x2, .f32⟩
  | 67 => ⟨S1024x2x1, .f32⟩
  | 68 => ⟨S1024x2x2, .f32⟩
  | 69 => ⟨S1024x2x2, .f32⟩
  | 70 => ⟨S1024x2x1, .f32⟩
  | 71 => ⟨S1024x2x32, .f32⟩
  | 72 => ⟨S1024x2x32, .f32⟩
  | 73 => ⟨S1024x2x1, .f32⟩
  | 74 => ⟨S1024x2x32, .f32⟩
  | 75 => ⟨S1024x2x32, .f32⟩
  | 76 => ⟨S1024x2x32, .f32⟩
  | 77 => ⟨S1024x2x32, .f32⟩
  | 78 => ⟨S_, .f32⟩
  | 79 => ⟨S1024x2, .f32⟩
  | 80 => ⟨S1024x2x1, .f32⟩
  | 81 => ⟨S_, .f32⟩
  | 82 => ⟨S1024x2x1, .f32⟩
  | 83 => ⟨S1024x2x1, .f32⟩
  | 84 => ⟨S_, .f32⟩
  | 85 => ⟨S1024x2x1, .f32⟩
  | 86 => ⟨S1024x2x1, .f32⟩
  | 87 => ⟨S1024x2x1, .f32⟩
  | 88 => ⟨S_, .f32⟩
  | 89 => ⟨S1024x2x1, .f32⟩
  | 90 => ⟨S1024x2x1, .f32⟩
  | 91 => ⟨S1024x2x32, .f32⟩
  | 92 => ⟨S1024x2x32, .f32⟩
  | 93 => ⟨S1024x2x32, .f32⟩
  | 94 => ⟨S1024x2x32, .i1⟩
  | 95 => ⟨S1024x2x32, .f32⟩
  | 96 => ⟨S1024x2x32, .i1⟩
  | 97 => ⟨S1024x2x32, .f32⟩
  | 98 => ⟨S1, .i32⟩
  | 99 => ⟨S1x1, .i32⟩
  | 100 => ⟨S_, .i32⟩
  | 101 => ⟨S1x1, .i32⟩
  | 102 => ⟨S1x1, .i32⟩
  | 103 => ⟨S_, .i32⟩
  | 104 => ⟨S1x1, .i32⟩
  | 105 => ⟨S1x1, .i32⟩
  | 106 => ⟨S1024x1, .i32⟩
  | 107 => ⟨S1024x1, .i1⟩
  | 108 => ⟨S1024x1, .i32⟩
  | 109 => ⟨S1024x1, .i1⟩
  | 110 => ⟨S1024x1, .i1⟩
  | 111 => ⟨S1024x1x1, .i1⟩
  | 112 => ⟨S1024x1, .i32⟩
  | 113 => ⟨S1024x1, .i1⟩
  | 114 => ⟨S1024x1, .i32⟩
  | 115 => ⟨S1024x1, .i1⟩
  | 116 => ⟨S1024x1, .i1⟩
  | 117 => ⟨S1024x1x1, .i1⟩
  | 118 => ⟨S1024x1x32, .f32⟩
  | 119 => ⟨S1024x1x32, .f32⟩
  | 120 => ⟨S1024x1x32x1, .f32⟩
  | 121 => ⟨S1024x1x1x32, .f32⟩
  | 122 => ⟨S1024x1x32x32, .f32⟩
  | 123 => ⟨S1024x1x32x32, .f32⟩
  | 124 => ⟨S1024x1x32x32, .f32⟩
  | 125 => ⟨S1024x1x1024, .f32⟩
  | 126 => ⟨S1024x2, .f32⟩
  | 127 => ⟨S1024x1x2, .f32⟩
  | _ => ⟨S1024x64, .i32⟩

abbrev hbmTy0_6 (i : Nat) : BufTy := match i % 128 with
  | 0 => ⟨S_, .f32⟩
  | 1 => ⟨S1024x1, .f32⟩
  | 2 => ⟨S_, .f32⟩
  | 3 => ⟨S1024x1, .f32⟩
  | 4 => ⟨S1024x1, .f32⟩
  | 5 => ⟨S1024x1x1, .f32⟩
  | 6 => ⟨S1024x1x2, .f32⟩
  | 7 => ⟨S1024x1x2, .f32⟩
  | 8 => ⟨S1024x1x2, .f32⟩
  | 9 => ⟨S_, .f32⟩
  | 10 => ⟨S1024x1, .f32⟩
  | 11 => ⟨S1024x1x1, .f32⟩
  | 12 => ⟨S1024x1x2, .f32⟩
  | 13 => ⟨S1024x1x2, .f32⟩
  | 14 => ⟨S1024x1x1, .f32⟩
  | 15 => ⟨S1024x1x32, .f32⟩
  | 16 => ⟨S1024x1x32, .f32⟩
  | 17 => ⟨S1024x1x1, .f32⟩
  | 18 => ⟨S1024x1x32, .f32⟩
  | 19 => ⟨S1024x1x32, .f32⟩
  | 20 => ⟨S1024x1x32, .f32⟩
  | 21 => ⟨S1024x1x32, .f32⟩
  | 22 => ⟨S_, .f32⟩
  | 23 => ⟨S1024x1, .f32⟩
  | 24 => ⟨S1024x1x1, .f32⟩
  | 25 => ⟨S_, .f32⟩
  | 26 => ⟨S1024x1x1, .f32⟩
  | 27 => ⟨S1024x1x1, .f32⟩
  | 28 => ⟨S_, .f32⟩
  | 29 => ⟨S1024x1x1, .f32⟩
  | 30 => ⟨S1024x1x1, .f32⟩
  | 31 => ⟨S1024x1x1, .f32⟩
  | 32 => ⟨S_, .f32⟩
  | 33 => ⟨S1024x1x1, .f32⟩
  | 34 => ⟨S1024x1x1, .f32⟩
  | 35 => ⟨S1024x1x32, .f32⟩
  | 36 => ⟨S1024x1x32, .f32⟩
  | 37 => ⟨S1024x1x32, .f32⟩
  | 38 => ⟨S1024x1x32, .i1⟩
  | 39 => ⟨S1024x1x32, .f32⟩
  | 40 => ⟨S1024x1x32, .i1⟩
  | 41 => ⟨S1024x1x32, .f32⟩
  | 42 => ⟨S1024x32, .f32⟩
  | 43 => ⟨S32x10, .f32⟩
  | 44 => ⟨S1024x10, .f32⟩
  | _ => ⟨S1024x64, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024x64, .i32⟩

abbrev bufTy : (tb : Table) → Fin (tcTables nBuf tb) → BufTy
  | .hbm, ⟨i, _⟩ => hbmTy i
  | _, _ => ⟨S1024x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_cst_0 : Ref sig .tc := ⟨.hbm, 33, rfl⟩
abbrev main_v4 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_6 : Ref sig .tc := ⟨.hbm, 79, rfl⟩
abbrev main_v44 : Ref sig .tc := ⟨.hbm, 80, rfl⟩
abbrev main_v45 : Ref sig .tc := ⟨.hbm, 81, rfl⟩
abbrev main_cst_7 : Ref sig .tc := ⟨.hbm, 82, rfl⟩
abbrev main_v46 : Ref sig .tc := ⟨.hbm, 83, rfl⟩
abbrev main_v47 : Ref sig .tc := ⟨.hbm, 84, rfl⟩
abbrev main_cst_8 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_9 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_10 : Ref sig .tc := ⟨.hbm, 104, rfl⟩
abbrev main_v65 : Ref sig .tc := ⟨.hbm, 105, rfl⟩
abbrev main_cst_11 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_12 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_13 : Ref sig .tc := ⟨.hbm, 126, rfl⟩
abbrev main_v84 : Ref sig .tc := ⟨.hbm, 127, rfl⟩
abbrev main_v85 : Ref sig .tc := ⟨.hbm, 128, rfl⟩
abbrev main_cst_14 : Ref sig .tc := ⟨.hbm, 129, rfl⟩
abbrev main_v86 : Ref sig .tc := ⟨.hbm, 130, rfl⟩
abbrev main_v87 : Ref sig .tc := ⟨.hbm, 131, rfl⟩
abbrev main_cst_15 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_16 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_17 : Ref sig .tc := ⟨.hbm, 151, rfl⟩
abbrev main_v105 : Ref sig .tc := ⟨.hbm, 152, rfl⟩
abbrev main_cst_18 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_19 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_20 : Ref sig .tc := ⟨.hbm, 173, rfl⟩
abbrev main_v124 : Ref sig .tc := ⟨.hbm, 174, rfl⟩
abbrev main_v125 : Ref sig .tc := ⟨.hbm, 175, rfl⟩
abbrev main_cst_21 : Ref sig .tc := ⟨.hbm, 176, rfl⟩
abbrev main_v126 : Ref sig .tc := ⟨.hbm, 177, rfl⟩
abbrev main_v127 : Ref sig .tc := ⟨.hbm, 178, rfl⟩
abbrev main_cst_22 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_23 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_24 : Ref sig .tc := ⟨.hbm, 198, rfl⟩
abbrev main_v145 : Ref sig .tc := ⟨.hbm, 199, rfl⟩
abbrev main_cst_25 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_cst_26 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_27 : Ref sig .tc := ⟨.hbm, 220, rfl⟩
abbrev main_v164 : Ref sig .tc := ⟨.hbm, 221, rfl⟩
abbrev main_v165 : Ref sig .tc := ⟨.hbm, 222, rfl⟩
abbrev main_cst_28 : Ref sig .tc := ⟨.hbm, 223, rfl⟩
abbrev main_v166 : Ref sig .tc := ⟨.hbm, 224, rfl⟩
abbrev main_v167 : Ref sig .tc := ⟨.hbm, 225, rfl⟩
abbrev main_cst_29 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_cst_30 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_31 : Ref sig .tc := ⟨.hbm, 245, rfl⟩
abbrev main_v185 : Ref sig .tc := ⟨.hbm, 246, rfl⟩
abbrev main_cst_32 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_cst_33 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_cst_34 : Ref sig .tc := ⟨.hbm, 267, rfl⟩
abbrev main_v204 : Ref sig .tc := ⟨.hbm, 268, rfl⟩
abbrev main_v205 : Ref sig .tc := ⟨.hbm, 269, rfl⟩
abbrev main_cst_35 : Ref sig .tc := ⟨.hbm, 270, rfl⟩
abbrev main_v206 : Ref sig .tc := ⟨.hbm, 271, rfl⟩
abbrev main_v207 : Ref sig .tc := ⟨.hbm, 272, rfl⟩
abbrev main_cst_36 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_cst_37 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_cst_38 : Ref sig .tc := ⟨.hbm, 292, rfl⟩
abbrev main_v225 : Ref sig .tc := ⟨.hbm, 293, rfl⟩
abbrev main_cst_39 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_cst_40 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_cst_41 : Ref sig .tc := ⟨.hbm, 314, rfl⟩
abbrev main_v244 : Ref sig .tc := ⟨.hbm, 315, rfl⟩
abbrev main_v245 : Ref sig .tc := ⟨.hbm, 316, rfl⟩
abbrev main_cst_42 : Ref sig .tc := ⟨.hbm, 317, rfl⟩
abbrev main_v246 : Ref sig .tc := ⟨.hbm, 318, rfl⟩
abbrev main_v247 : Ref sig .tc := ⟨.hbm, 319, rfl⟩
abbrev main_cst_43 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_cst_44 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_c : Ref sig .tc := ⟨.hbm, 333, rfl⟩
abbrev main_v259 : Ref sig .tc := ⟨.hbm, 334, rfl⟩
abbrev main_v260 : Ref sig .tc := ⟨.hbm, 335, rfl⟩
abbrev main_c_45 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_c_46 : Ref sig .tc := ⟨.hbm, 360, rfl⟩
abbrev main_v284 : Ref sig .tc := ⟨.hbm, 361, rfl⟩
abbrev main_v285 : Ref sig .tc := ⟨.hbm, 362, rfl⟩
abbrev main_c_47 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_cst_48 : Ref sig .tc := ⟨.hbm, 392, rfl⟩
abbrev main_v314 : Ref sig .tc := ⟨.hbm, 393, rfl⟩
abbrev main_cst_49 : Ref sig .tc := ⟨.hbm, 394, rfl⟩
abbrev main_v315 : Ref sig .tc := ⟨.hbm, 395, rfl⟩
abbrev main_v316 : Ref sig .tc := ⟨.hbm, 396, rfl⟩
abbrev main_v317 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_cst_50 : Ref sig .tc := ⟨.hbm, 401, rfl⟩
abbrev main_v321 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_cst_51 : Ref sig .tc := ⟨.hbm, 414, rfl⟩
abbrev main_v333 : Ref sig .tc := ⟨.hbm, 415, rfl⟩
abbrev main_v334 : Ref sig .tc := ⟨.hbm, 416, rfl⟩
abbrev main_cst_52 : Ref sig .tc := ⟨.hbm, 417, rfl⟩
abbrev main_v335 : Ref sig .tc := ⟨.hbm, 418, rfl⟩
abbrev main_v336 : Ref sig .tc := ⟨.hbm, 419, rfl⟩
abbrev main_cst_53 : Ref sig .tc := ⟨.hbm, 420, rfl⟩
abbrev main_v337 : Ref sig .tc := ⟨.hbm, 421, rfl⟩
abbrev main_v338 : Ref sig .tc := ⟨.hbm, 422, rfl⟩
abbrev main_v339 : Ref sig .tc := ⟨.hbm, 423, rfl⟩
abbrev main_cst_54 : Ref sig .tc := ⟨.hbm, 424, rfl⟩
abbrev main_v340 : Ref sig .tc := ⟨.hbm, 425, rfl⟩
abbrev main_v341 : Ref sig .tc := ⟨.hbm, 426, rfl⟩
abbrev main_v342 : Ref sig .tc := ⟨.hbm, 427, rfl⟩
abbrev main_v343 : Ref sig .tc := ⟨.hbm, 428, rfl⟩
abbrev main_v344 : Ref sig .tc := ⟨.hbm, 429, rfl⟩
abbrev main_v345 : Ref sig .tc := ⟨.hbm, 430, rfl⟩
abbrev main_v346 : Ref sig .tc := ⟨.hbm, 431, rfl⟩
abbrev main_v347 : Ref sig .tc := ⟨.hbm, 432, rfl⟩
abbrev main_v348 : Ref sig .tc := ⟨.hbm, 433, rfl⟩
abbrev main_v349 : Ref sig .tc := ⟨.hbm, 434, rfl⟩
abbrev main_v350 : Ref sig .tc := ⟨.hbm, 435, rfl⟩
abbrev main_c_55 : Ref sig .tc := ⟨.hbm, 436, rfl⟩
abbrev main_v351 : Ref sig .tc := ⟨.hbm, 437, rfl⟩
abbrev main_v352 : Ref sig .tc := ⟨.hbm, 438, rfl⟩
abbrev main_c_56 : Ref sig .tc := ⟨.hbm, 439, rfl⟩
abbrev main_v353 : Ref sig .tc := ⟨.hbm, 440, rfl⟩
abbrev main_v354 : Ref sig .tc := ⟨.hbm, 441, rfl⟩
abbrev main_v355 : Ref sig .tc := ⟨.hbm, 442, rfl⟩
abbrev main_v356 : Ref sig .tc := ⟨.hbm, 443, rfl⟩
abbrev main_v357 : Ref sig .tc := ⟨.hbm, 444, rfl⟩
abbrev main_v358 : Ref sig .tc := ⟨.hbm, 445, rfl⟩
abbrev main_v359 : Ref sig .tc := ⟨.hbm, 446, rfl⟩
abbrev main_v360 : Ref sig .tc := ⟨.hbm, 447, rfl⟩
abbrev main_v361 : Ref sig .tc := ⟨.hbm, 448, rfl⟩
abbrev main_v362 : Ref sig .tc := ⟨.hbm, 449, rfl⟩
abbrev main_v363 : Ref sig .tc := ⟨.hbm, 450, rfl⟩
abbrev main_v364 : Ref sig .tc := ⟨.hbm, 451, rfl⟩
abbrev main_v365 : Ref sig .tc := ⟨.hbm, 452, rfl⟩
abbrev main_v366 : Ref sig .tc := ⟨.hbm, 453, rfl⟩
abbrev main_v367 : Ref sig .tc := ⟨.hbm, 454, rfl⟩
abbrev main_v368 : Ref sig .tc := ⟨.hbm, 455, rfl⟩
abbrev main_v369 : Ref sig .tc := ⟨.hbm, 456, rfl⟩
abbrev main_v370 : Ref sig .tc := ⟨.hbm, 457, rfl⟩
abbrev main_v371 : Ref sig .tc := ⟨.hbm, 458, rfl⟩
abbrev main_v372 : Ref sig .tc := ⟨.hbm, 459, rfl⟩
abbrev main_v373 : Ref sig .tc := ⟨.hbm, 460, rfl⟩
abbrev main_v374 : Ref sig .tc := ⟨.hbm, 461, rfl⟩
abbrev main_v375 : Ref sig .tc := ⟨.hbm, 462, rfl⟩
abbrev main_v376 : Ref sig .tc := ⟨.hbm, 463, rfl⟩
abbrev main_v377 : Ref sig .tc := ⟨.hbm, 464, rfl⟩
abbrev main_v378 : Ref sig .tc := ⟨.hbm, 465, rfl⟩
abbrev main_v379 : Ref sig .tc := ⟨.hbm, 466, rfl⟩
abbrev main_v380 : Ref sig .tc := ⟨.hbm, 467, rfl⟩
abbrev main_cst_57 : Ref sig .tc := ⟨.hbm, 468, rfl⟩
abbrev main_v381 : Ref sig .tc := ⟨.hbm, 469, rfl⟩
abbrev main_cst_58 : Ref sig .tc := ⟨.hbm, 470, rfl⟩
abbrev main_v382 : Ref sig .tc := ⟨.hbm, 471, rfl⟩
abbrev main_v383 : Ref sig .tc := ⟨.hbm, 472, rfl⟩
abbrev main_v384 : Ref sig .tc := ⟨.hbm, 473, rfl⟩
abbrev main_v385 : Ref sig .tc := ⟨.hbm, 474, rfl⟩
abbrev main_v386 : Ref sig .tc := ⟨.hbm, 475, rfl⟩
abbrev main_v387 : Ref sig .tc := ⟨.hbm, 476, rfl⟩
abbrev main_cst_59 : Ref sig .tc := ⟨.hbm, 477, rfl⟩
abbrev main_v388 : Ref sig .tc := ⟨.hbm, 478, rfl⟩
abbrev main_v389 : Ref sig .tc := ⟨.hbm, 479, rfl⟩
abbrev main_v390 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_v396 : Ref sig .tc := ⟨.hbm, 486, rfl⟩
abbrev main_v397 : Ref sig .tc := ⟨.hbm, 487, rfl⟩
abbrev main_v398 : Ref sig .tc := ⟨.hbm, 488, rfl⟩
abbrev main_v399 : Ref sig .tc := ⟨.hbm, 489, rfl⟩
abbrev main_cst_60 : Ref sig .tc := ⟨.hbm, 490, rfl⟩
abbrev main_v400 : Ref sig .tc := ⟨.hbm, 491, rfl⟩
abbrev main_v401 : Ref sig .tc := ⟨.hbm, 492, rfl⟩
abbrev main_cst_61 : Ref sig .tc := ⟨.hbm, 493, rfl⟩
abbrev main_v402 : Ref sig .tc := ⟨.hbm, 494, rfl⟩
abbrev main_v403 : Ref sig .tc := ⟨.hbm, 495, rfl⟩
abbrev main_cst_62 : Ref sig .tc := ⟨.hbm, 496, rfl⟩
abbrev main_v404 : Ref sig .tc := ⟨.hbm, 497, rfl⟩
abbrev main_v405 : Ref sig .tc := ⟨.hbm, 498, rfl⟩
abbrev main_v406 : Ref sig .tc := ⟨.hbm, 499, rfl⟩
abbrev main_cst_63 : Ref sig .tc := ⟨.hbm, 500, rfl⟩
abbrev main_v407 : Ref sig .tc := ⟨.hbm, 501, rfl⟩
abbrev main_v408 : Ref sig .tc := ⟨.hbm, 502, rfl⟩
abbrev main_v409 : Ref sig .tc := ⟨.hbm, 503, rfl⟩
abbrev main_v410 : Ref sig .tc := ⟨.hbm, 504, rfl⟩
abbrev main_v411 : Ref sig .tc := ⟨.hbm, 505, rfl⟩
abbrev main_v412 : Ref sig .tc := ⟨.hbm, 506, rfl⟩
abbrev main_v413 : Ref sig .tc := ⟨.hbm, 507, rfl⟩
abbrev main_v414 : Ref sig .tc := ⟨.hbm, 508, rfl⟩
abbrev main_v415 : Ref sig .tc := ⟨.hbm, 509, rfl⟩
abbrev main_v416 : Ref sig .tc := ⟨.hbm, 510, rfl⟩
abbrev main_v417 : Ref sig .tc := ⟨.hbm, 511, rfl⟩
abbrev main_c_64 : Ref sig .tc := ⟨.hbm, 512, rfl⟩
abbrev main_v418 : Ref sig .tc := ⟨.hbm, 513, rfl⟩
abbrev main_v419 : Ref sig .tc := ⟨.hbm, 514, rfl⟩
abbrev main_c_65 : Ref sig .tc := ⟨.hbm, 515, rfl⟩
abbrev main_v420 : Ref sig .tc := ⟨.hbm, 516, rfl⟩
abbrev main_v421 : Ref sig .tc := ⟨.hbm, 517, rfl⟩
abbrev main_v422 : Ref sig .tc := ⟨.hbm, 518, rfl⟩
abbrev main_v423 : Ref sig .tc := ⟨.hbm, 519, rfl⟩
abbrev main_v424 : Ref sig .tc := ⟨.hbm, 520, rfl⟩
abbrev main_v425 : Ref sig .tc := ⟨.hbm, 521, rfl⟩
abbrev main_v426 : Ref sig .tc := ⟨.hbm, 522, rfl⟩
abbrev main_v427 : Ref sig .tc := ⟨.hbm, 523, rfl⟩
abbrev main_v428 : Ref sig .tc := ⟨.hbm, 524, rfl⟩
abbrev main_v429 : Ref sig .tc := ⟨.hbm, 525, rfl⟩
abbrev main_v430 : Ref sig .tc := ⟨.hbm, 526, rfl⟩
abbrev main_v431 : Ref sig .tc := ⟨.hbm, 527, rfl⟩
abbrev main_v432 : Ref sig .tc := ⟨.hbm, 528, rfl⟩
abbrev main_v433 : Ref sig .tc := ⟨.hbm, 529, rfl⟩
abbrev main_v434 : Ref sig .tc := ⟨.hbm, 530, rfl⟩
abbrev main_v435 : Ref sig .tc := ⟨.hbm, 531, rfl⟩
abbrev main_v436 : Ref sig .tc := ⟨.hbm, 532, rfl⟩
abbrev main_v437 : Ref sig .tc := ⟨.hbm, 533, rfl⟩
abbrev main_v438 : Ref sig .tc := ⟨.hbm, 534, rfl⟩
abbrev main_v439 : Ref sig .tc := ⟨.hbm, 535, rfl⟩
abbrev main_v440 : Ref sig .tc := ⟨.hbm, 536, rfl⟩
abbrev main_v441 : Ref sig .tc := ⟨.hbm, 537, rfl⟩
abbrev main_v442 : Ref sig .tc := ⟨.hbm, 538, rfl⟩
abbrev main_v443 : Ref sig .tc := ⟨.hbm, 539, rfl⟩
abbrev main_v444 : Ref sig .tc := ⟨.hbm, 540, rfl⟩
abbrev main_v445 : Ref sig .tc := ⟨.hbm, 541, rfl⟩
abbrev main_v446 : Ref sig .tc := ⟨.hbm, 542, rfl⟩
abbrev main_v447 : Ref sig .tc := ⟨.hbm, 543, rfl⟩
abbrev main_cst_66 : Ref sig .tc := ⟨.hbm, 544, rfl⟩
abbrev main_v448 : Ref sig .tc := ⟨.hbm, 545, rfl⟩
abbrev main_cst_67 : Ref sig .tc := ⟨.hbm, 546, rfl⟩
abbrev main_v449 : Ref sig .tc := ⟨.hbm, 547, rfl⟩
abbrev main_v450 : Ref sig .tc := ⟨.hbm, 548, rfl⟩
abbrev main_v451 : Ref sig .tc := ⟨.hbm, 549, rfl⟩
abbrev main_v452 : Ref sig .tc := ⟨.hbm, 550, rfl⟩
abbrev main_v453 : Ref sig .tc := ⟨.hbm, 551, rfl⟩
abbrev main_v454 : Ref sig .tc := ⟨.hbm, 552, rfl⟩
abbrev main_cst_68 : Ref sig .tc := ⟨.hbm, 553, rfl⟩
abbrev main_v455 : Ref sig .tc := ⟨.hbm, 554, rfl⟩
abbrev main_v456 : Ref sig .tc := ⟨.hbm, 555, rfl⟩
abbrev main_v457 : Ref sig .tc := ⟨.hbm, 556, rfl⟩
abbrev main_v458 : Ref sig .tc := ⟨.hbm, 557, rfl⟩
abbrev main_v459 : Ref sig .tc := ⟨.hbm, 558, rfl⟩
abbrev main_v460 : Ref sig .tc := ⟨.hbm, 559, rfl⟩
abbrev main_v461 : Ref sig .tc := ⟨.hbm, 560, rfl⟩
abbrev main_v462 : Ref sig .tc := ⟨.hbm, 561, rfl⟩
abbrev main_v463 : Ref sig .tc := ⟨.hbm, 562, rfl⟩
abbrev main_v464 : Ref sig .tc := ⟨.hbm, 563, rfl⟩
abbrev main_v465 : Ref sig .tc := ⟨.hbm, 564, rfl⟩
abbrev main_v466 : Ref sig .tc := ⟨.hbm, 565, rfl⟩
abbrev main_cst_69 : Ref sig .tc := ⟨.hbm, 566, rfl⟩
abbrev main_v467 : Ref sig .tc := ⟨.hbm, 567, rfl⟩
abbrev main_v468 : Ref sig .tc := ⟨.hbm, 568, rfl⟩
abbrev main_cst_70 : Ref sig .tc := ⟨.hbm, 569, rfl⟩
abbrev main_v469 : Ref sig .tc := ⟨.hbm, 570, rfl⟩
abbrev main_v470 : Ref sig .tc := ⟨.hbm, 571, rfl⟩
abbrev main_cst_71 : Ref sig .tc := ⟨.hbm, 572, rfl⟩
abbrev main_v471 : Ref sig .tc := ⟨.hbm, 573, rfl⟩
abbrev main_v472 : Ref sig .tc := ⟨.hbm, 574, rfl⟩
abbrev main_v473 : Ref sig .tc := ⟨.hbm, 575, rfl⟩
abbrev main_cst_72 : Ref sig .tc := ⟨.hbm, 576, rfl⟩
abbrev main_v474 : Ref sig .tc := ⟨.hbm, 577, rfl⟩
abbrev main_v475 : Ref sig .tc := ⟨.hbm, 578, rfl⟩
abbrev main_v476 : Ref sig .tc := ⟨.hbm, 579, rfl⟩
abbrev main_v477 : Ref sig .tc := ⟨.hbm, 580, rfl⟩
abbrev main_v478 : Ref sig .tc := ⟨.hbm, 581, rfl⟩
abbrev main_v479 : Ref sig .tc := ⟨.hbm, 582, rfl⟩
abbrev main_v480 : Ref sig .tc := ⟨.hbm, 583, rfl⟩
abbrev main_v481 : Ref sig .tc := ⟨.hbm, 584, rfl⟩
abbrev main_v482 : Ref sig .tc := ⟨.hbm, 585, rfl⟩
abbrev main_v483 : Ref sig .tc := ⟨.hbm, 586, rfl⟩
abbrev main_v484 : Ref sig .tc := ⟨.hbm, 587, rfl⟩
abbrev main_c_73 : Ref sig .tc := ⟨.hbm, 588, rfl⟩
abbrev main_v485 : Ref sig .tc := ⟨.hbm, 589, rfl⟩
abbrev main_v486 : Ref sig .tc := ⟨.hbm, 590, rfl⟩
abbrev main_c_74 : Ref sig .tc := ⟨.hbm, 591, rfl⟩
abbrev main_v487 : Ref sig .tc := ⟨.hbm, 592, rfl⟩
abbrev main_v488 : Ref sig .tc := ⟨.hbm, 593, rfl⟩
abbrev main_v489 : Ref sig .tc := ⟨.hbm, 594, rfl⟩
abbrev main_v490 : Ref sig .tc := ⟨.hbm, 595, rfl⟩
abbrev main_v491 : Ref sig .tc := ⟨.hbm, 596, rfl⟩
abbrev main_v492 : Ref sig .tc := ⟨.hbm, 597, rfl⟩
abbrev main_v493 : Ref sig .tc := ⟨.hbm, 598, rfl⟩
abbrev main_v494 : Ref sig .tc := ⟨.hbm, 599, rfl⟩
abbrev main_v495 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_v500 : Ref sig .tc := ⟨.hbm, 605, rfl⟩
abbrev main_v501 : Ref sig .tc := ⟨.hbm, 606, rfl⟩
abbrev main_v502 : Ref sig .tc := ⟨.hbm, 607, rfl⟩
abbrev main_v503 : Ref sig .tc := ⟨.hbm, 608, rfl⟩
abbrev main_v504 : Ref sig .tc := ⟨.hbm, 609, rfl⟩
abbrev main_v505 : Ref sig .tc := ⟨.hbm, 610, rfl⟩
abbrev main_v506 : Ref sig .tc := ⟨.hbm, 611, rfl⟩
abbrev main_v507 : Ref sig .tc := ⟨.hbm, 612, rfl⟩
abbrev main_v508 : Ref sig .tc := ⟨.hbm, 613, rfl⟩
abbrev main_v509 : Ref sig .tc := ⟨.hbm, 614, rfl⟩
abbrev main_v510 : Ref sig .tc := ⟨.hbm, 615, rfl⟩
abbrev main_v511 : Ref sig .tc := ⟨.hbm, 616, rfl⟩
abbrev main_v512 : Ref sig .tc := ⟨.hbm, 617, rfl⟩
abbrev main_v513 : Ref sig .tc := ⟨.hbm, 618, rfl⟩
abbrev main_v514 : Ref sig .tc := ⟨.hbm, 619, rfl⟩
abbrev main_cst_75 : Ref sig .tc := ⟨.hbm, 620, rfl⟩
abbrev main_v515 : Ref sig .tc := ⟨.hbm, 621, rfl⟩
abbrev main_cst_76 : Ref sig .tc := ⟨.hbm, 622, rfl⟩
abbrev main_v516 : Ref sig .tc := ⟨.hbm, 623, rfl⟩
abbrev main_v517 : Ref sig .tc := ⟨.hbm, 624, rfl⟩
abbrev main_v518 : Ref sig .tc := ⟨.hbm, 625, rfl⟩
abbrev main_v519 : Ref sig .tc := ⟨.hbm, 626, rfl⟩
abbrev main_v520 : Ref sig .tc := ⟨.hbm, 627, rfl⟩
abbrev main_v521 : Ref sig .tc := ⟨.hbm, 628, rfl⟩
abbrev main_cst_77 : Ref sig .tc := ⟨.hbm, 629, rfl⟩
abbrev main_v522 : Ref sig .tc := ⟨.hbm, 630, rfl⟩
abbrev main_v523 : Ref sig .tc := ⟨.hbm, 631, rfl⟩
abbrev main_v524 : Ref sig .tc := ⟨.hbm, 632, rfl⟩
abbrev main_v525 : Ref sig .tc := ⟨.hbm, 633, rfl⟩
abbrev main_v526 : Ref sig .tc := ⟨.hbm, 634, rfl⟩
abbrev main_v527 : Ref sig .tc := ⟨.hbm, 635, rfl⟩
abbrev main_v528 : Ref sig .tc := ⟨.hbm, 636, rfl⟩
abbrev main_v529 : Ref sig .tc := ⟨.hbm, 637, rfl⟩
abbrev main_v530 : Ref sig .tc := ⟨.hbm, 638, rfl⟩
abbrev main_v531 : Ref sig .tc := ⟨.hbm, 639, rfl⟩
abbrev main_v532 : Ref sig .tc := ⟨.hbm, 640, rfl⟩
abbrev main_v533 : Ref sig .tc := ⟨.hbm, 641, rfl⟩
abbrev main_cst_78 : Ref sig .tc := ⟨.hbm, 642, rfl⟩
abbrev main_v534 : Ref sig .tc := ⟨.hbm, 643, rfl⟩
abbrev main_v535 : Ref sig .tc := ⟨.hbm, 644, rfl⟩
abbrev main_cst_79 : Ref sig .tc := ⟨.hbm, 645, rfl⟩
abbrev main_v536 : Ref sig .tc := ⟨.hbm, 646, rfl⟩
abbrev main_v537 : Ref sig .tc := ⟨.hbm, 647, rfl⟩
abbrev main_cst_80 : Ref sig .tc := ⟨.hbm, 648, rfl⟩
abbrev main_v538 : Ref sig .tc := ⟨.hbm, 649, rfl⟩
abbrev main_v539 : Ref sig .tc := ⟨.hbm, 650, rfl⟩
abbrev main_v540 : Ref sig .tc := ⟨.hbm, 651, rfl⟩
abbrev main_cst_81 : Ref sig .tc := ⟨.hbm, 652, rfl⟩
abbrev main_v541 : Ref sig .tc := ⟨.hbm, 653, rfl⟩
abbrev main_v542 : Ref sig .tc := ⟨.hbm, 654, rfl⟩
abbrev main_v543 : Ref sig .tc := ⟨.hbm, 655, rfl⟩
abbrev main_v544 : Ref sig .tc := ⟨.hbm, 656, rfl⟩
abbrev main_v545 : Ref sig .tc := ⟨.hbm, 657, rfl⟩
abbrev main_v546 : Ref sig .tc := ⟨.hbm, 658, rfl⟩
abbrev main_v547 : Ref sig .tc := ⟨.hbm, 659, rfl⟩
abbrev main_v548 : Ref sig .tc := ⟨.hbm, 660, rfl⟩
abbrev main_v549 : Ref sig .tc := ⟨.hbm, 661, rfl⟩
abbrev main_v550 : Ref sig .tc := ⟨.hbm, 662, rfl⟩
abbrev main_v551 : Ref sig .tc := ⟨.hbm, 663, rfl⟩
abbrev main_c_82 : Ref sig .tc := ⟨.hbm, 664, rfl⟩
abbrev main_v552 : Ref sig .tc := ⟨.hbm, 665, rfl⟩
abbrev main_v553 : Ref sig .tc := ⟨.hbm, 666, rfl⟩
abbrev main_c_83 : Ref sig .tc := ⟨.hbm, 667, rfl⟩
abbrev main_v554 : Ref sig .tc := ⟨.hbm, 668, rfl⟩
abbrev main_v555 : Ref sig .tc := ⟨.hbm, 669, rfl⟩
abbrev main_v556 : Ref sig .tc := ⟨.hbm, 670, rfl⟩
abbrev main_v557 : Ref sig .tc := ⟨.hbm, 671, rfl⟩
abbrev main_v558 : Ref sig .tc := ⟨.hbm, 672, rfl⟩
abbrev main_v559 : Ref sig .tc := ⟨.hbm, 673, rfl⟩
abbrev main_v560 : Ref sig .tc := ⟨.hbm, 674, rfl⟩
abbrev main_v561 : Ref sig .tc := ⟨.hbm, 675, rfl⟩
abbrev main_v562 : Ref sig .tc := ⟨.hbm, 676, rfl⟩
abbrev main_v563 : Ref sig .tc := ⟨.hbm, 677, rfl⟩
abbrev main_v564 : Ref sig .tc := ⟨.hbm, 678, rfl⟩
abbrev main_v565 : Ref sig .tc := ⟨.hbm, 679, rfl⟩
abbrev main_v566 : Ref sig .tc := ⟨.hbm, 680, rfl⟩
abbrev main_v567 : Ref sig .tc := ⟨.hbm, 681, rfl⟩
abbrev main_v568 : Ref sig .tc := ⟨.hbm, 682, rfl⟩
abbrev main_v569 : Ref sig .tc := ⟨.hbm, 683, rfl⟩
abbrev main_v570 : Ref sig .tc := ⟨.hbm, 684, rfl⟩
abbrev main_v571 : Ref sig .tc := ⟨.hbm, 685, rfl⟩
abbrev main_v572 : Ref sig .tc := ⟨.hbm, 686, rfl⟩
abbrev main_v573 : Ref sig .tc := ⟨.hbm, 687, rfl⟩
abbrev main_v574 : Ref sig .tc := ⟨.hbm, 688, rfl⟩
abbrev main_v575 : Ref sig .tc := ⟨.hbm, 689, rfl⟩
abbrev main_v576 : Ref sig .tc := ⟨.hbm, 690, rfl⟩
abbrev main_v577 : Ref sig .tc := ⟨.hbm, 691, rfl⟩
abbrev main_v578 : Ref sig .tc := ⟨.hbm, 692, rfl⟩
abbrev main_v579 : Ref sig .tc := ⟨.hbm, 693, rfl⟩
abbrev main_v580 : Ref sig .tc := ⟨.hbm, 694, rfl⟩
abbrev main_v581 : Ref sig .tc := ⟨.hbm, 695, rfl⟩
abbrev main_cst_84 : Ref sig .tc := ⟨.hbm, 696, rfl⟩
abbrev main_v582 : Ref sig .tc := ⟨.hbm, 697, rfl⟩
abbrev main_cst_85 : Ref sig .tc := ⟨.hbm, 698, rfl⟩
abbrev main_v583 : Ref sig .tc := ⟨.hbm, 699, rfl⟩
abbrev main_v584 : Ref sig .tc := ⟨.hbm, 700, rfl⟩
abbrev main_v585 : Ref sig .tc := ⟨.hbm, 701, rfl⟩
abbrev main_v586 : Ref sig .tc := ⟨.hbm, 702, rfl⟩
abbrev main_v587 : Ref sig .tc := ⟨.hbm, 703, rfl⟩
abbrev main_v588 : Ref sig .tc := ⟨.hbm, 704, rfl⟩
abbrev main_cst_86 : Ref sig .tc := ⟨.hbm, 705, rfl⟩
abbrev main_v589 : Ref sig .tc := ⟨.hbm, 706, rfl⟩
abbrev main_v590 : Ref sig .tc := ⟨.hbm, 707, rfl⟩
abbrev main_v591 : Ref sig .tc := ⟨.hbm, 708, rfl⟩
abbrev main_v592 : Ref sig .tc := ⟨.hbm, 709, rfl⟩
abbrev main_v593 : Ref sig .tc := ⟨.hbm, 710, rfl⟩
abbrev main_v594 : Ref sig .tc := ⟨.hbm, 711, rfl⟩
abbrev main_v595 : Ref sig .tc := ⟨.hbm, 712, rfl⟩
abbrev main_v596 : Ref sig .tc := ⟨.hbm, 713, rfl⟩
abbrev main_v597 : Ref sig .tc := ⟨.hbm, 714, rfl⟩
abbrev main_v598 : Ref sig .tc := ⟨.hbm, 715, rfl⟩
abbrev main_v599 : Ref sig .tc := ⟨.hbm, 716, rfl⟩
abbrev main_v600 : Ref sig .tc := ⟨.hbm, 717, rfl⟩
abbrev main_cst_87 : Ref sig .tc := ⟨.hbm, 718, rfl⟩
abbrev main_v601 : Ref sig .tc := ⟨.hbm, 719, rfl⟩
abbrev main_v602 : Ref sig .tc := ⟨.hbm, 720, rfl⟩
abbrev main_cst_88 : Ref sig .tc := ⟨.hbm, 721, rfl⟩
abbrev main_v603 : Ref sig .tc := ⟨.hbm, 722, rfl⟩
abbrev main_v604 : Ref sig .tc := ⟨.hbm, 723, rfl⟩
abbrev main_cst_89 : Ref sig .tc := ⟨.hbm, 724, rfl⟩
abbrev main_v605 : Ref sig .tc := ⟨.hbm, 725, rfl⟩
abbrev main_v606 : Ref sig .tc := ⟨.hbm, 726, rfl⟩
abbrev main_v607 : Ref sig .tc := ⟨.hbm, 727, rfl⟩
abbrev main_cst_90 : Ref sig .tc := ⟨.hbm, 728, rfl⟩
abbrev main_v608 : Ref sig .tc := ⟨.hbm, 729, rfl⟩
abbrev main_v609 : Ref sig .tc := ⟨.hbm, 730, rfl⟩
abbrev main_v610 : Ref sig .tc := ⟨.hbm, 731, rfl⟩
abbrev main_v611 : Ref sig .tc := ⟨.hbm, 732, rfl⟩
abbrev main_v612 : Ref sig .tc := ⟨.hbm, 733, rfl⟩
abbrev main_v613 : Ref sig .tc := ⟨.hbm, 734, rfl⟩
abbrev main_v614 : Ref sig .tc := ⟨.hbm, 735, rfl⟩
abbrev main_v615 : Ref sig .tc := ⟨.hbm, 736, rfl⟩
abbrev main_v616 : Ref sig .tc := ⟨.hbm, 737, rfl⟩
abbrev main_v617 : Ref sig .tc := ⟨.hbm, 738, rfl⟩
abbrev main_v618 : Ref sig .tc := ⟨.hbm, 739, rfl⟩
abbrev main_c_91 : Ref sig .tc := ⟨.hbm, 740, rfl⟩
abbrev main_v619 : Ref sig .tc := ⟨.hbm, 741, rfl⟩
abbrev main_v620 : Ref sig .tc := ⟨.hbm, 742, rfl⟩
abbrev main_c_92 : Ref sig .tc := ⟨.hbm, 743, rfl⟩
abbrev main_v621 : Ref sig .tc := ⟨.hbm, 744, rfl⟩
abbrev main_v622 : Ref sig .tc := ⟨.hbm, 745, rfl⟩
abbrev main_v623 : Ref sig .tc := ⟨.hbm, 746, rfl⟩
abbrev main_v624 : Ref sig .tc := ⟨.hbm, 747, rfl⟩
abbrev main_v625 : Ref sig .tc := ⟨.hbm, 748, rfl⟩
abbrev main_v626 : Ref sig .tc := ⟨.hbm, 749, rfl⟩
abbrev main_v627 : Ref sig .tc := ⟨.hbm, 750, rfl⟩
abbrev main_v628 : Ref sig .tc := ⟨.hbm, 751, rfl⟩
abbrev main_v629 : Ref sig .tc := ⟨.hbm, 752, rfl⟩
abbrev main_v630 : Ref sig .tc := ⟨.hbm, 753, rfl⟩
abbrev main_v631 : Ref sig .tc := ⟨.hbm, 754, rfl⟩
abbrev main_v632 : Ref sig .tc := ⟨.hbm, 755, rfl⟩
abbrev main_v633 : Ref sig .tc := ⟨.hbm, 756, rfl⟩
abbrev main_v634 : Ref sig .tc := ⟨.hbm, 757, rfl⟩
abbrev main_v635 : Ref sig .tc := ⟨.hbm, 758, rfl⟩
abbrev main_v636 : Ref sig .tc := ⟨.hbm, 759, rfl⟩
abbrev main_v637 : Ref sig .tc := ⟨.hbm, 760, rfl⟩
abbrev main_v638 : Ref sig .tc := ⟨.hbm, 761, rfl⟩
abbrev main_v639 : Ref sig .tc := ⟨.hbm, 762, rfl⟩
abbrev main_v640 : Ref sig .tc := ⟨.hbm, 763, rfl⟩
abbrev main_v641 : Ref sig .tc := ⟨.hbm, 764, rfl⟩
abbrev main_v642 : Ref sig .tc := ⟨.hbm, 765, rfl⟩
abbrev main_v643 : Ref sig .tc := ⟨.hbm, 766, rfl⟩
abbrev main_v644 : Ref sig .tc := ⟨.hbm, 767, rfl⟩
abbrev main_cst_93 : Ref sig .tc := ⟨.hbm, 768, rfl⟩
abbrev main_v645 : Ref sig .tc := ⟨.hbm, 769, rfl⟩
abbrev main_cst_94 : Ref sig .tc := ⟨.hbm, 770, rfl⟩
abbrev main_v646 : Ref sig .tc := ⟨.hbm, 771, rfl⟩
abbrev main_v647 : Ref sig .tc := ⟨.hbm, 772, rfl⟩
abbrev main_v648 : Ref sig .tc := ⟨.hbm, 773, rfl⟩
abbrev main_v649 : Ref sig .tc := ⟨.hbm, 774, rfl⟩
abbrev main_v650 : Ref sig .tc := ⟨.hbm, 775, rfl⟩
abbrev main_v651 : Ref sig .tc := ⟨.hbm, 776, rfl⟩
abbrev main_cst_95 : Ref sig .tc := ⟨.hbm, 777, rfl⟩
abbrev main_v652 : Ref sig .tc := ⟨.hbm, 778, rfl⟩
abbrev main_v653 : Ref sig .tc := ⟨.hbm, 779, rfl⟩
abbrev main_v654 : Ref sig .tc := ⟨.hbm, 780, rfl⟩
abbrev main_v655 : Ref sig .tc := ⟨.hbm, 781, rfl⟩
abbrev main_v656 : Ref sig .tc := ⟨.hbm, 782, rfl⟩
abbrev main_v657 : Ref sig .tc := ⟨.hbm, 783, rfl⟩
abbrev main_v658 : Ref sig .tc := ⟨.hbm, 784, rfl⟩
abbrev main_v659 : Ref sig .tc := ⟨.hbm, 785, rfl⟩
abbrev main_v660 : Ref sig .tc := ⟨.hbm, 786, rfl⟩
abbrev main_v661 : Ref sig .tc := ⟨.hbm, 787, rfl⟩
abbrev main_v662 : Ref sig .tc := ⟨.hbm, 788, rfl⟩
abbrev main_v663 : Ref sig .tc := ⟨.hbm, 789, rfl⟩
abbrev main_cst_96 : Ref sig .tc := ⟨.hbm, 790, rfl⟩
abbrev main_v664 : Ref sig .tc := ⟨.hbm, 791, rfl⟩
abbrev main_v665 : Ref sig .tc := ⟨.hbm, 792, rfl⟩
abbrev main_cst_97 : Ref sig .tc := ⟨.hbm, 793, rfl⟩
abbrev main_v666 : Ref sig .tc := ⟨.hbm, 794, rfl⟩
abbrev main_v667 : Ref sig .tc := ⟨.hbm, 795, rfl⟩
abbrev main_cst_98 : Ref sig .tc := ⟨.hbm, 796, rfl⟩
abbrev main_v668 : Ref sig .tc := ⟨.hbm, 797, rfl⟩
abbrev main_v669 : Ref sig .tc := ⟨.hbm, 798, rfl⟩
abbrev main_v670 : Ref sig .tc := ⟨.hbm, 799, rfl⟩
abbrev main_cst_99 : Ref sig .tc := ⟨.hbm, 800, rfl⟩
abbrev main_v671 : Ref sig .tc := ⟨.hbm, 801, rfl⟩
abbrev main_v672 : Ref sig .tc := ⟨.hbm, 802, rfl⟩
abbrev main_v673 : Ref sig .tc := ⟨.hbm, 803, rfl⟩
abbrev main_v674 : Ref sig .tc := ⟨.hbm, 804, rfl⟩
abbrev main_v675 : Ref sig .tc := ⟨.hbm, 805, rfl⟩
abbrev main_v676 : Ref sig .tc := ⟨.hbm, 806, rfl⟩
abbrev main_v677 : Ref sig .tc := ⟨.hbm, 807, rfl⟩
abbrev main_v678 : Ref sig .tc := ⟨.hbm, 808, rfl⟩
abbrev main_v679 : Ref sig .tc := ⟨.hbm, 809, rfl⟩
abbrev main_v680 : Ref sig .tc := ⟨.hbm, 810, rfl⟩
abbrev main_v681 : Ref sig .tc := ⟨.hbm, 811, rfl⟩
abbrev main_v682 : Ref sig .tc := ⟨.hbm, 812, rfl⟩

abbrev nD : Nat := 1
abbrev τ : Topo := Topo.v7x

variable {F : FTy → Type} [FloatOps F]
-- ==== Proof.Column.lean ====
/- One node of the tree, seen as a column of 32 extended reals: the kernel's way and the reference's way
   of combining two child columns, and the proof that they agree where the children and the rule are real. -/
module

public import Idealize.ShloMosaic.Lib.ValueIdx
public import Idealize.ShloMosaic.Lib.IdealHost
public import Idealize.ShloMosaic.PureOps.Ideal.Laws

@[expose] public section

set_option maxRecDepth 16384

noncomputable section

namespace Cert.Column

open Idealize.ShloMosaic

/-- A column: the 32 features of one node for one batch row. -/
abbrev Col := Fin 32 → EReal

/-- The small constant both programs add, as the word they print. -/
def eps : EReal := Ideal.ofBits .f32 0x358637BD#32
/-- The kernel's factor one thirty-second, as the word it prints. -/
def inv32 : EReal := Ideal.ofBits .f32 0x3D000000#32
/-- The reference's divisor thirty-two, as the word it prints. -/
def c32 : EReal := Ideal.ofBits .f32 0x42000000#32

/-- The factor is the real number 1/32. -/
theorem inv32_eq : inv32 = ((1 / 32 : ℝ) : EReal) := by
  unfold inv32; simp [Ideal.ofBits, Ideal.ieee, -EReal.coe_mul]; norm_num

/-- The divisor is the real number 32. -/
theorem c32_eq : c32 = ((32 : ℝ) : EReal) := by
  unfold c32; simp [Ideal.ofBits, Ideal.ieee, -EReal.coe_mul]; norm_num

/-- The small constant is a positive real number. -/
theorem eps_pos : ∃ e : ℝ, 0 < e ∧ eps = (e : EReal) := by
  refine ⟨_, ?_, by unfold eps; simp [Ideal.ofBits, Ideal.ieee, -EReal.coe_mul]; rfl⟩
  norm_num

/-- An extended real that is a real number. -/
def IsReal (x : EReal) : Prop := ∃ r : ℝ, x = (r : EReal)

/-- The sum of the squares of a column. -/
def sumsq (v : Col) : EReal := ∑ k, v k * v k

/-- The kernel's normalised column: a product with a reciprocal. -/
def knorm (v : Col) : Col := fun i =>
  v i * Ideal.div 1 (Ideal.sqrt (sumsq v * inv32 + eps) + eps)

/-- The reference's normalised column: a quotient. -/
def rnorm (v : Col) : Col := fun i =>
  Ideal.div (v i) (Ideal.sqrt (Ideal.div (sumsq v) c32 + eps) + eps)

/-- A square root plus the small constant is never zero. -/
theorem sqrt_add_eps_ne (z : EReal) : Ideal.sqrt z + eps ≠ 0 := by
  obtain ⟨e, he, hE⟩ := eps_pos
  rw [hE]
  induction z using EReal.rec with
  | bot => simp
  | top => simp
  | coe r =>
    rw [Ideal.sqrt_coe]
    split
    · simp
    · rw [← EReal.coe_add]
      have := Real.sqrt_nonneg r
      exact_mod_cast (by positivity : (0 : ℝ) < Real.sqrt r + e).ne'

/-- The two normalisations are one function, whatever the column holds. -/
theorem knorm_eq (v : Col) : knorm v = rnorm v := by
  funext i
  unfold knorm rnorm
  rw [Ideal.mul_one_div (sqrt_add_eps_ne _), c32_eq, Ideal.div_coe (by norm_num), inv32_eq]

/-- A sum of reals is real. -/
theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih fun i hi => h i (Finset.mem_insert_of_mem hi)
    exact ⟨x + y, by rw [hx, hy, EReal.coe_add]⟩

/-- A square is not negative. -/
theorem mul_self_nonneg' (x : EReal) : 0 ≤ x * x := by
  induction x using EReal.rec with
  | bot => simp
  | top => simp
  | coe r => rw [← EReal.coe_mul]; exact_mod_cast mul_self_nonneg r

/-- Every entry of a normalised column is a real number, even where the column holds infinities. -/
theorem isReal_rnorm (v : Col) (i : Fin 32) : IsReal (rnorm v i) := by
  obtain ⟨e, he, hE⟩ := eps_pos
  have hs : 0 ≤ sumsq v := Finset.sum_nonneg fun k _ => mul_self_nonneg' (v k)
  unfold rnorm
  by_cases ht : sumsq v = ⊤
  · have hz : Ideal.div (sumsq v) c32 = ⊤ := by
      rw [ht, c32_eq, Ideal.div_coe (by norm_num)]
      exact EReal.top_mul_coe_of_pos (by norm_num)
    rw [hz, hE]
    refine ⟨0, ?_⟩
    rw [EReal.top_add_coe, Ideal.sqrt_top, EReal.top_add_coe]
    unfold Ideal.div
    rw [if_neg (by simp), EReal.inv_top, mul_zero, EReal.coe_zero]
  · have hb : sumsq v ≠ ⊥ := fun h => by rw [h] at hs; simp at hs
    obtain ⟨s, hs'⟩ : IsReal (sumsq v) := ⟨(sumsq v).toReal, (EReal.coe_toReal ht hb).symm⟩
    have hs0 : 0 ≤ s := by rw [hs'] at hs; exact_mod_cast hs
    have hvi : IsReal (v i) := by
      have hle : v i * v i ≤ sumsq v :=
        Finset.single_le_sum (f := fun k => v k * v k) (fun k _ => mul_self_nonneg' (v k)) (Finset.mem_univ i)
      rcases hv : v i with _ | _ | r
      · exact absurd (le_antisymm le_top (by rw [show v i = ⊥ from hv] at hle; simpa using hle)) ht
      · exact absurd (le_antisymm le_top (by rw [show v i = ⊤ from hv] at hle; simpa using hle)) ht
      · exact ⟨r, rfl⟩
    obtain ⟨x, hx⟩ := hvi
    rw [hs', c32_eq, Ideal.div_coe (by norm_num), hE, ← EReal.coe_mul, ← EReal.coe_add, Ideal.sqrt_coe,
      if_neg (by have : 0 ≤ s * (1 / 32) := by positivity
                 linarith), ← EReal.coe_add, Ideal.div_coe (by
        have := Real.sqrt_nonneg (s * (1 / 32) + e); positivity), hx, ← EReal.coe_mul]
    exact ⟨_, rfl⟩

/-- The reference's score of rule `r`: the pairwise products of the two columns against the rule's weights. -/
def rscore (W : Fin 1024 → EReal) (a b : Col) : EReal :=
  ∑ k : Fin 1024, (a ⟨k.val / 32, by omega⟩ * b ⟨k.val % 32, by omega⟩) * W k

/-- The reference's weight of one rule after the softmax over the two. -/
def rexp (s t u : EReal) : EReal := Ideal.exp (s - max t u)

/-- The reference's mixed column, before it is normalised. -/
def rmix (W : Fin 2 → Fin 1024 → EReal) (a b : Col) : Col := fun i =>
  let s := rscore (W 0) a b
  let t := rscore (W 1) a b
  Ideal.div (rexp s s t) (rexp s s t + rexp t s t) * a i + Ideal.div (rexp t s t) (rexp s s t + rexp t s t) * b i

/-- The kernel's mixed column: one logistic weight, from the difference of the rule's two rows. -/
def kmix (D : Fin 32 → Fin 32 → EReal) (a b : Col) : Col := fun i =>
  b i + Ideal.div 1 (1 + Ideal.exp (0 - ∑ k, a k * ∑ j, D k j * b j)) * (a i - b i)

/-- A sum over the 1024 pairs is the double sum over rows and columns. -/
theorem sum_pairs (f : Fin 1024 → ℝ) :
    ∑ k, f k = ∑ i : Fin 32, ∑ j : Fin 32, f ⟨i.val * 32 + j.val, by omega⟩ := by
  rw [← Finset.sum_product', ← (finProdFinEquiv (m := 32) (n := 32)).sum_comp, Finset.univ_product_univ]
  refine Finset.sum_congr rfl fun p _ => congrArg f (Fin.ext ?_)
  show p.2.val + 32 * p.1.val = p.1.val * 32 + p.2.val
  omega

/-- A sum of embedded reals is the embedded sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE MIXED COLUMNS AGREE: for real children and real rules, with the kernel's matrix the difference of the rule's two rows. -/
theorem kmix_eq (W : Fin 2 → Fin 1024 → EReal) (D : Fin 32 → Fin 32 → EReal) (a b : Col)
    (hD : ∀ i j, D i j = W 0 ⟨i.val * 32 + j.val, by omega⟩ - W 1 ⟨i.val * 32 + j.val, by omega⟩)
    (hW : ∀ r k, IsReal (W r k)) (ha : ∀ i, IsReal (a i)) (hb : ∀ i, IsReal (b i)) :
    kmix D a b = rmix W a b := by
  choose w hw using hW
  choose x hx using ha
  choose y hy using hb
  funext i
  have hs : ∀ r, rscore (W r) a b = ((∑ i : Fin 32, ∑ j : Fin 32, (x i * y j) * w r ⟨i.val * 32 + j.val, by omega⟩ : ℝ) : EReal) := by
    intro r
    have : rscore (W r) a b = ((∑ k : Fin 1024, (x ⟨k.val / 32, by omega⟩ * y ⟨k.val % 32, by omega⟩) * w r k : ℝ) : EReal) := by
      unfold rscore
      rw [coe_sum]
      exact Finset.sum_congr rfl fun k _ => by rw [hx, hy, hw, EReal.coe_mul, EReal.coe_mul]
    rw [this, sum_pairs]
    refine congrArg _ (Finset.sum_congr rfl fun p _ => Finset.sum_congr rfl fun q _ => ?_)
    have e1 : (⟨(p.val * 32 + q.val) / 32, by omega⟩ : Fin 32) = p := Fin.ext (by show (p.val * 32 + q.val) / 32 = p.val; omega)
    have e2 : (⟨(p.val * 32 + q.val) % 32, by omega⟩ : Fin 32) = q := Fin.ext (by show (p.val * 32 + q.val) % 32 = q.val; omega)
    rw [e1, e2]
  have hk : (∑ k, a k * ∑ j, D k j * b j)
      = (((∑ i : Fin 32, ∑ j : Fin 32, (x i * y j) * w 0 ⟨i.val * 32 + j.val, by omega⟩)
          - ∑ i : Fin 32, ∑ j : Fin 32, (x i * y j) * w 1 ⟨i.val * 32 + j.val, by omega⟩ : ℝ) : EReal) := by
    rw [← Finset.sum_sub_distrib, coe_sum]
    refine Finset.sum_congr rfl fun p _ => ?_
    rw [← Finset.sum_sub_distrib, show (∑ j, D p j * b j) = ((∑ j, (w 0 ⟨p.val * 32 + j.val, by omega⟩ - w 1 ⟨p.val * 32 + j.val, by omega⟩) * y j : ℝ) : EReal) by
      rw [coe_sum]
      exact Finset.sum_congr rfl fun q _ => by rw [hD, hw, hw, hy, EReal.coe_mul, EReal.coe_sub], hx, ← EReal.coe_mul, Finset.mul_sum]
    exact congrArg _ (Finset.sum_congr rfl fun q _ => by ring)
  unfold kmix rmix
  simp only [hs, hk]
  rw [hx, hy]
  generalize (∑ i : Fin 32, ∑ j : Fin 32, (x i * y j) * w 0 ⟨i.val * 32 + j.val, by omega⟩) = s
  generalize (∑ i : Fin 32, ∑ j : Fin 32, (x i * y j) * w 1 ⟨i.val * 32 + j.val, by omega⟩) = t
  have hm : max (s : EReal) (t : EReal) = ((max s t : ℝ) : EReal) := ((EReal.coe_strictMono.monotone).map_max (a := s) (b := t)).symm
  unfold rexp
  rw [hm]
  generalize max s t = m
  have hp1 := Real.exp_pos (s - m)
  have hp2 := Real.exp_pos (t - m)
  have hp3 := Real.exp_pos (0 - (s - t))
  rw [← EReal.coe_sub s m, ← EReal.coe_sub t m, Ideal.exp_coe, Ideal.exp_coe, ← EReal.coe_add, Ideal.div_coe (by positivity),
    Ideal.div_coe (by positivity), show (0 : EReal) = ((0 : ℝ) : EReal) from rfl, ← EReal.coe_sub, Ideal.exp_coe,
    show (1 : EReal) = ((1 : ℝ) : EReal) from rfl, ← EReal.coe_add, Ideal.div_coe (by positivity)]
  rw [← EReal.coe_sub, ← EReal.coe_mul, ← EReal.coe_mul, ← EReal.coe_add, ← EReal.coe_mul, ← EReal.coe_mul, ← EReal.coe_mul, ← EReal.coe_mul, ← EReal.coe_add]
  refine congrArg _ ?_
  have he : Real.exp (t - m) = Real.exp (s - m) * Real.exp (0 - (s - t)) := by
    rw [← Real.exp_add]; congr 1; ring
  rw [he]
  field_simp
  ring

/-- The kernel's combined column: mixed, then normalised. -/
def kcomb (D : Fin 32 → Fin 32 → EReal) (a b : Col) : Col := knorm (kmix D a b)

/-- The reference's combined column: mixed, then normalised. -/
def rcomb (W : Fin 2 → Fin 1024 → EReal) (a b : Col) : Col := rnorm (rmix W a b)

/-- The combined columns agree, for real children and real rules. -/
theorem kcomb_eq (W : Fin 2 → Fin 1024 → EReal) (D : Fin 32 → Fin 32 → EReal) (a b : Col)
    (hD : ∀ i j, D i j = W 0 ⟨i.val * 32 + j.val, by omega⟩ - W 1 ⟨i.val * 32 + j.val, by omega⟩)
    (hW : ∀ r k, IsReal (W r k)) (ha : ∀ i, IsReal (a i)) (hb : ∀ i, IsReal (b i)) :
    kcomb D a b = rcomb W a b := by
  unfold kcomb rcomb
  rw [kmix_eq W D a b hD hW ha hb, knorm_eq]

/-- A combined column is real, whatever the children. -/
theorem isReal_rcomb (W : Fin 2 → Fin 1024 → EReal) (a b : Col) (i : Fin 32) : IsReal (rcomb W a b i) :=
  isReal_rnorm _ i

/-- The bit that says that the query from `ql` to `qh` covers the nodes from `lo` to `hi`. -/
def covers (ql qh lo hi : BitVec 32) : BitVec 1 := IntOp.andi (IntOp.cmpi .sle ql lo) (IntOp.cmpi .sge qh hi)

/-- The bit that says that the query from `ql` to `qh` misses the nodes from `lo` to `hi`. -/
def misses (ql qh lo hi : BitVec 32) : BitVec 1 := IntOp.ori (IntOp.cmpi .sgt ql hi) (IntOp.cmpi .slt qh lo)

/-- What a node answers: its own column where the query covers it, the column `e` where the query misses it, and
    its children's combined answers `c` elsewhere. -/
def answer (ql qh lo hi : BitVec 32) (t e c : EReal) : EReal :=
  Scalar.select (covers ql qh lo hi) t (Scalar.select (misses ql qh lo hi) e c)

/-- An answer is real where its three candidates are. -/
theorem isReal_answer (ql qh lo hi : BitVec 32) {t e c : EReal} (ht : IsReal t) (he : IsReal e) (hc : IsReal c) :
    IsReal (answer ql qh lo hi t e c) := by
  unfold answer Scalar.select
  split
  · exact ht
  · split
    · exact he
    · exact hc

end Cert.Column

end
-- ==== Proof.Spec.lean ====
/- The tree of one batch row as mathematics: the column of every node, and the answer of every node to a query, by
   the node's height above the leaves and its place in its level; and the order in which the kernel lays the nodes of
   a level over its lanes. -/
module

public import proofs.«01_k».proof.Proof.Column

@[expose] public section

noncomputable section

namespace Cert.Spec

open Idealize.ShloMosaic Cert.Column

/-- The row of the embedding that an id names. -/
def row (x : BitVec 32) : Fin 11 := ⟨min x.toNat 10, by omega⟩

/-- An id that compares as at least zero and below eleven is a row number. -/
theorem id_lt {x : BitVec 32} (h0 : IntOp.cmpi .sge x 0#32 = 1#1) (h1 : IntOp.cmpi .slt x 11#32 = 1#1) : x.toNat < 11 := by
  have hb : ∀ c : Bool, BitVec.ofBool c = 1#1 → c = true := by decide
  have b0 : (0#32).sle x = true := hb _ h0
  have b1 : x.slt 11#32 = true := hb _ h1
  rw [BitVec.sle, decide_eq_true_eq] at b0
  rw [BitVec.slt, decide_eq_true_eq] at b1
  have e0 : (0#32).toInt = 0 := by decide
  have e1 : (11#32).toInt = 11 := by decide
  rw [e0] at b0
  rw [e1] at b1
  have := BitVec.toInt_eq_toNat_cond x
  have := x.isLt
  split at * <;> omega

/-- An id below eleven is the word of its row. -/
theorem id_word {x : BitVec 32} (h : x.toNat < 11) : x = BitVec.ofNat 32 (row x).val := by
  apply BitVec.eq_of_toNat_eq
  rw [BitVec.toNat_ofNat]
  show x.toNat = min x.toNat 10 % 2 ^ 32
  omega

/-- The leaf that an id names: its row of the embedding, normalised. -/
def leafCol (emb : Fin 11 → Col) (x : BitVec 32) : Col := rnorm (emb (row x))

/-- The column of node `j` of the level `h` above the leaves `leaf`. -/
def node (W : Fin 2 → Fin 1024 → EReal) (leaf : ℕ → Col) : ℕ → ℕ → Col
  | 0, j => leaf j
  | h + 1, j => rcomb W (node W leaf h (2 * j)) (node W leaf h (2 * j + 1))

/-- The first leaf under node `j` of level `h`, as a word. -/
def first (h j : ℕ) : BitVec 32 := BitVec.ofNat 32 (2 ^ h * j)

/-- The last leaf under node `j` of level `h`, as a word. -/
def last (h j : ℕ) : BitVec 32 := BitVec.ofNat 32 (2 ^ h * j + (2 ^ h - 1))

/-- What node `j` of level `h` answers to the query from `ql` to `qh`, with `tok` for a node it misses. -/
def reply (W : Fin 2 → Fin 1024 → EReal) (leaf : ℕ → Col) (tok : Col) (ql qh : BitVec 32) : ℕ → ℕ → Col
  | 0, j => fun i => Scalar.select (covers ql qh (first 0 j) (last 0 j)) (leaf j i) (tok i)
  | h + 1, j => fun i => answer ql qh (first (h + 1) j) (last (h + 1) j) (node W leaf (h + 1) j i) (tok i)
      (rcomb W (reply W leaf tok ql qh h (2 * j)) (reply W leaf tok ql qh h (2 * j + 1)) i)

/-- Every node's column is real where the leaves' columns are. -/
theorem isReal_node (W : Fin 2 → Fin 1024 → EReal) {leaf : ℕ → Col} (hl : ∀ j i, IsReal (leaf j i)) (h j : ℕ) (i : Fin 32) :
    IsReal (node W leaf h j i) := by
  cases h with
  | zero => exact hl j i
  | succ h => exact isReal_rcomb W _ _ i

/-- Every answer is real where the leaves' columns and the token are. -/
theorem isReal_reply (W : Fin 2 → Fin 1024 → EReal) {leaf : ℕ → Col} {tok : Col} (hl : ∀ j i, IsReal (leaf j i))
    (ht : ∀ i, IsReal (tok i)) (ql qh : BitVec 32) (h j : ℕ) (i : Fin 32) : IsReal (reply W leaf tok ql qh h j i) := by
  cases h with
  | zero =>
    unfold reply Scalar.select
    split
    · exact hl j i
    · exact ht i
  | succ h =>
    unfold reply
    exact isReal_answer ql qh _ _ (isReal_node W hl (h + 1) j i) (ht i) (isReal_rcomb W _ _ i)

/-- The node that block `s` of the kernel's lanes holds at depth `d`: the lower half of the blocks holds the left
    children of the nodes one depth up, in their order, and the upper half the right children. -/
def br : ℕ → ℕ → ℕ
  | 0, _ => 0
  | d + 1, s => if s < 2 ^ d then 2 * br d s else 2 * br d (s - 2 ^ d) + 1

/-- A block of the lower half holds a left child. -/
theorem br_left {d s : ℕ} (h : s < 2 ^ d) : br (d + 1) s = 2 * br d s := if_pos h

/-- A block of the upper half holds a right child. -/
theorem br_right {d s : ℕ} : br (d + 1) (s + 2 ^ d) = 2 * br d s + 1 := by
  show (if s + 2 ^ d < 2 ^ d then _ else 2 * br d (s + 2 ^ d - 2 ^ d) + 1) = _
  rw [if_neg (by omega), Nat.add_sub_cancel]

/-- The node a block holds is one of its level. -/
theorem br_lt {d s : ℕ} (h : s < 2 ^ d) : br d s < 2 ^ d := by
  induction d generalizing s with
  | zero => exact Nat.one_pos
  | succ d ih =>
    rw [pow_succ] at h ⊢
    by_cases hs : s < 2 ^ d
    · rw [br_left hs]; have := ih hs; omega
    · have := ih (s := s - 2 ^ d) (by omega)
      show (if s < 2 ^ d then _ else 2 * br d (s - 2 ^ d) + 1) < _
      rw [if_neg hs]; omega

end Cert.Spec

end
-- ==== Proof.KernelLevel.lean ====
/- The kernel's way of combining and choosing the nodes of one level of the tree, for any number of lanes,
   as the operations on arrays it prints; and those arrays read at an index: every lane holds the column
   that `Cert.Column.kcomb` makes of two lanes of the level below, or the one chosen in its place. -/
module

public import proofs.«01_k».proof.Proof.Column
public import Idealize.ShloMosaic.Lib.Pipeline.Value
public import Idealize.ShloMosaic.Lib.ValueLayout
public import Idealize.ShloMosaic.Lib.MatmulPlain

@[expose] public section

set_option maxRecDepth 16384

noncomputable section

namespace Cert.KernelLevel

open Idealize.ShloMosaic Idealize.ShloMosaic.ValueIdx Cert.Column

/-- `k` rows of `n` lanes. -/
abbrev M (k n : ℕ) : Shape := ⟨2, ![k, n]⟩

/-- What the printed operations of a level of `n` lanes need of their shapes. -/
structure Facts (n : ℕ) : Prop where
  red : (M 32 n).Reduces [0] ⟨1, ![n]⟩
  cast : (⟨1, ![n]⟩ : Shape).ShapeCasts (M 1 n)
  down : (M 1 n).Broadcasts (M 32 n)
  same : (M 1 n).ShapeCasts (M 1 n)
  col : (M 32 1).ShapeCasts (M 32 1)
  across : (M 32 1).Broadcasts (M 32 n)

variable {n : ℕ} (F : Facts n)

/-- The sum of each lane's 32 rows. -/
def total (v : FVec Ideal (M 32 n) .f32) : FVec Ideal (M 1 n) .f32 :=
  shapeCast (M 1 n) (multiReduction .add [0] ⟨1, ![n]⟩ v 0x00000000#32 F.red (.inl rfl) rfl) F.cast

/-- One plus the exponential of the negated score of two children. -/
def gate (D : FVec Ideal (M 32 32) .f32) (a b : FVec Ideal (M 32 n) .f32) : FVec Ideal (M 1 n) .f32 :=
  addf (broadcast (M 1 n) (Scalar.ofBits .f32 0x3F800000#32))
    (exp (subf (broadcast (M 1 n) (Scalar.ofBits .f32 0x00000000#32))
      (total F (mulf a (matmul (DotDims.plain 32 32 n) (some .fp32) D b (constant (M 32 n) .f32 0x00000000#32))))))

/-- The two children mixed. -/
def mix (g : FVec Ideal (M 1 n) .f32) (a b : FVec Ideal (M 32 n) .f32) : FVec Ideal (M 32 n) .f32 :=
  addf b (mulf (broadcastTo (M 32 n) (divf (broadcast (M 1 n) (Scalar.ofBits .f32 0x3F800000#32)) g) F.down) (subf a b))

/-- Each lane times the reciprocal of the root of its mean square. -/
def norm (v : FVec Ideal (M 32 n) .f32) : FVec Ideal (M 32 n) .f32 :=
  mulf v (broadcastTo (M 32 n) (divf (broadcast (M 1 n) (Scalar.ofBits .f32 0x3F800000#32))
    (addf (sqrt (addf (mulf (total F (mulf v v)) (broadcast (M 1 n) (Scalar.ofBits .f32 0x3D000000#32)))
        (broadcast (M 1 n) (Scalar.ofBits .f32 0x358637BD#32))))
      (broadcast (M 1 n) (Scalar.ofBits .f32 0x358637BD#32)))) F.down)

/-- One level: the parents of the lanes `a` and `b`. -/
def comb (D : FVec Ideal (M 32 32) .f32) (a b : FVec Ideal (M 32 n) .f32) : FVec Ideal (M 32 n) .f32 :=
  norm F (mix F (gate F D a b) a b)

/-- The lanes of `t` where the query covers the node, the lanes of `c` elsewhere. -/
def whole (ql qh lo hi : IVec (M 1 n) 32) (t c : FVec Ideal (M 32 n) .f32) : FVec Ideal (M 32 n) .f32 :=
  select (broadcastTo (M 32 n) (shapeCast (M 1 n) (andi (cmpi .sle ql lo) (cmpi .sge qh hi)) F.same) F.down) t c

/-- A column spread over all lanes. -/
def spread (e : FVec Ideal (M 32 1) .f32) : FVec Ideal (M 32 n) .f32 :=
  broadcastTo (M 32 n) (shapeCast (M 32 1) e F.col) F.across

/-- The lanes of `t` where the query covers the node, the column `e` where it misses it, the lanes of `c` elsewhere. -/
def pick (ql qh lo hi : IVec (M 1 n) 32) (e : FVec Ideal (M 32 1) .f32) (t c : FVec Ideal (M 32 n) .f32) :
    FVec Ideal (M 32 n) .f32 :=
  whole F ql qh lo hi t
    (select (broadcastTo (M 32 n) (shapeCast (M 1 n) (ori (cmpi .sgt ql hi) (cmpi .slt qh lo)) F.same) F.down) (spread F e) c)

/-- A row spread over 32 rows, read at an index. -/
theorem down_apply {α : Type} (v : (M 1 n).Idx → α) (i : Fin 32) (p : Fin n) :
    broadcastTo (M 32 n) v F.down (ix2 i p) = v (ix2 (0 : Fin 1) p) :=
  broadcastTo_1b_ab_apply v F.down i p

/-- A column spread over the lanes, read at an index. -/
theorem spread_apply (e : FVec Ideal (M 32 1) .f32) (i : Fin 32) (p : Fin n) :
    spread F e (ix2 i p) = e (ix2 i (0 : Fin 1)) := by
  unfold spread
  rw [shapeCast_self]
  refine broadcastTo_apply e F.across _ _ fun a => ?_
  match a with
  | ⟨0, _⟩ => rfl
  | ⟨1, _⟩ => rfl

/-- The sums read at an index. -/
theorem total_apply (v : FVec Ideal (M 32 n) .f32) (p : Fin n) :
    total F v (ix2 (0 : Fin 1) p) = ∑ k : Fin 32, v (ix2 k p) := by
  unfold total
  rw [shapeCast_a_1a_apply _ F.cast]
  refine (Ideal.multiReduction_add_single _ _ F.red _ _ _).trans ?_
  refine Finset.sum_congr rfl fun k _ => congrArg v ?_
  funext a; apply Fin.ext
  match a with
  | ⟨0, _⟩ => rfl
  | ⟨1, _⟩ => rfl

/-- The word of one, as a scalar. -/
theorem one_eq : (Scalar.ofBits (F := Ideal) .f32 0x3F800000#32 : EReal) = 1 := Ideal.ofBits_one_f32

/-- The gates read at an index. -/
theorem gate_apply (D : FVec Ideal (M 32 32) .f32) (a b : FVec Ideal (M 32 n) .f32) (p : Fin n) :
    gate F D a b (ix2 (0 : Fin 1) p)
      = 1 + Ideal.exp (0 - ∑ k : Fin 32, a (ix2 k p) * ∑ j : Fin 32, D (ix2 k j) * b (ix2 j p)) := by
  unfold gate
  show (Scalar.ofBits (F := Ideal) .f32 0x3F800000#32 : EReal)
    + Ideal.exp ((Scalar.ofBits (F := Ideal) .f32 0x00000000#32 : EReal) - total F _ (ix2 (0 : Fin 1) p)) = _
  rw [total_apply, one_eq, show (Scalar.ofBits (F := Ideal) .f32 0x00000000#32 : EReal) = 0 from Ideal.ofBits_zero_f32]
  refine congrArg (fun s => 1 + Ideal.exp (0 - s)) (Finset.sum_congr rfl fun k _ => ?_)
  refine congrArg (a (ix2 k p) * ·) ?_
  show FloatOps.matmul (DotDims.plain 32 32 n) (some .fp32) D b _ (ix2 k p) = _
  rw [Ideal.matmul_plain_apply]
  show (Ideal.ofBits .f32 0x00000000#32 : EReal) + _ = _
  rw [Ideal.ofBits_zero_f32, zero_add]

/-- The mixed children read at an index. -/
theorem mix_apply (g : FVec Ideal (M 1 n) .f32) (a b : FVec Ideal (M 32 n) .f32) (i : Fin 32) (p : Fin n) :
    mix F g a b (ix2 i p)
      = b (ix2 i p) + Ideal.div 1 (g (ix2 (0 : Fin 1) p)) * (a (ix2 i p) - b (ix2 i p)) := by
  unfold mix
  rw [addf_apply, mulf_apply, down_apply F, subf_apply, divf_apply]
  show _ + Ideal.div (Scalar.ofBits (F := Ideal) .f32 0x3F800000#32 : EReal) _ * _ = _
  rw [one_eq]

/-- The normalised lanes read at an index. -/
theorem norm_apply (v : FVec Ideal (M 32 n) .f32) (i : Fin 32) (p : Fin n) :
    norm F v (ix2 i p) = knorm (fun i => v (ix2 i p)) i := by
  unfold norm
  rw [mulf_apply, down_apply F, divf_apply]
  show v (ix2 i p) * Ideal.div (Scalar.ofBits (F := Ideal) .f32 0x3F800000#32 : EReal)
    (Ideal.sqrt (total F _ (ix2 (0 : Fin 1) p) * inv32 + eps) + eps) = _
  rw [one_eq, total_apply]
  rfl

/-- **The parents read at an index**: each lane is the kernel's combination of its two children's columns. -/
theorem comb_apply (D : FVec Ideal (M 32 32) .f32) (a b : FVec Ideal (M 32 n) .f32) (i : Fin 32) (p : Fin n) :
    comb F D a b (ix2 i p)
      = kcomb (fun i j => D (ix2 i j)) (fun i => a (ix2 i p)) (fun i => b (ix2 i p)) i := by
  unfold comb kcomb
  rw [norm_apply]
  refine congrArg (fun v => knorm v i) (funext fun i => ?_)
  rw [mix_apply, gate_apply]
  rfl

/-- The choice at the leaves read at an index. -/
theorem whole_apply (ql qh lo hi : IVec (M 1 n) 32) (t c : FVec Ideal (M 32 n) .f32) (i : Fin 32) (p : Fin n) :
    whole F ql qh lo hi t c (ix2 i p)
      = Scalar.select (covers (ql (ix2 (0 : Fin 1) p)) (qh (ix2 (0 : Fin 1) p)) (lo (ix2 (0 : Fin 1) p)) (hi (ix2 (0 : Fin 1) p)))
          (t (ix2 i p)) (c (ix2 i p)) := by
  unfold whole
  rw [select_apply, down_apply F, shapeCast_self]
  rfl

/-- The choice at a level read at an index. -/
theorem pick_apply (ql qh lo hi : IVec (M 1 n) 32) (e : FVec Ideal (M 32 1) .f32) (t c : FVec Ideal (M 32 n) .f32)
    (i : Fin 32) (p : Fin n) :
    pick F ql qh lo hi e t c (ix2 i p)
      = answer (ql (ix2 (0 : Fin 1) p)) (qh (ix2 (0 : Fin 1) p)) (lo (ix2 (0 : Fin 1) p)) (hi (ix2 (0 : Fin 1) p))
          (t (ix2 i p)) (e (ix2 i (0 : Fin 1))) (c (ix2 i p)) := by
  unfold pick
  rw [whole_apply, select_apply, down_apply F, shapeCast_self, spread_apply]
  rfl

end Cert.KernelLevel

end
-- ==== Proof.KernelTree.lean ====
/- The kernel's levels: what its body leaves in its block, as the level operations of `Cert.KernelLevel` on its
   seven inputs. -/
module

public import proofs.«01_k».proof.Proof.Spec
public import proofs.«01_k».proof.Proof.KernelLevel
public import proofs.«01_k».proof.Proof.Gen.KernelIdeal.Frame

@[expose] public section

set_option maxRecDepth 16384

noncomputable section

namespace Cert.KernelTree

open Idealize.ShloMosaic Idealize.ShloMosaic.ValueIdx Cert.Column Cert.Spec Cert.KernelLevel
open Cert.KernelIdeal Cert.KernelIdeal.Gen

/-- The lane counts of the tree's levels. -/
def Size (n : ℕ) : Prop := n ∈ [1024, 2048, 4096, 8192, 16384, 32768, 65536]

/-- The printed shapes fit together at every level. -/
theorem facts {n : ℕ} (h : Size n) : Facts n := by
  simp only [Size, List.mem_cons, List.not_mem_nil, or_false] at h
  rcases h with rfl | rfl | rfl | rfl | rfl | rfl | rfl <;> constructor <;> decide

/-- The lower half of the lanes. -/
theorem lower {k n n' : ℕ} (hn : n' = 2 * n) : (M k n').Slices ![0, 0] (M k n) :=
  ⟨rfl, fun a => by
    match a with
    | ⟨0, _⟩ => show 0 + k ≤ k; omega
    | ⟨1, _⟩ => show 0 + n ≤ n'; omega⟩

/-- The upper half of the lanes. -/
theorem upper {k n n' : ℕ} (hn : n' = 2 * n) : (M k n').Slices ![0, n] (M k n) :=
  ⟨rfl, fun a => by
    match a with
    | ⟨0, _⟩ => show 0 + k ≤ k; omega
    | ⟨1, _⟩ => show n + n ≤ n'; omega⟩

/-- The first lanes of a row. -/
theorem front {n : ℕ} (h : Size n) : (M 1 65536).Slices ![0, 0] (M 1 n) := by
  simp only [Size, List.mem_cons, List.not_mem_nil, or_false] at h
  rcases h with rfl | rfl | rfl | rfl | rfl | rfl | rfl <;> decide

/-- The mixed lower and upper halves of a level, before they are normalised. -/
def mixed {n n' : ℕ} (h : Size n) (hn : n' = 2 * n) (D : FVec Ideal (M 32 32) .f32) (X : FVec Ideal (M 32 n') .f32) :
    FVec Ideal (M 32 n) .f32 :=
  mix (facts h)
    (gate (facts h) D (extractStridedSlice (M 32 n) ![0, 0] X (lower hn)) (extractStridedSlice (M 32 n) ![0, n] X (upper hn)))
    (extractStridedSlice (M 32 n) ![0, 0] X (lower hn)) (extractStridedSlice (M 32 n) ![0, n] X (upper hn))

/-- The parents of a level. -/
def up {n n' : ℕ} (h : Size n) (hn : n' = 2 * n) (D : FVec Ideal (M 32 32) .f32) (X : FVec Ideal (M 32 n') .f32) :
    FVec Ideal (M 32 n) .f32 :=
  norm (facts h) (mixed h hn D X)

/-- The kernel's seven inputs. -/
structure Ins where
  x0 : Vec Ideal S1x65536 .i32
  x1 : Vec Ideal S1024x2 .i32
  x2 : Vec Ideal S1x130048 .i32
  x3 : Vec Ideal S1x130048 .i32
  x4 : Vec Ideal S11x32 .f32
  x5 : Vec Ideal S32x32 .f32
  x6 : Vec Ideal S10x32 .f32

variable (I : Ins)

/-- The difference of the two rules. -/
abbrev diff : FVec Ideal (M 32 32) .f32 := k0_pay48 I.x0 I.x1 I.x2 I.x3 I.x4 I.x5 I.x6
/-- The token's column. -/
abbrev tokc : FVec Ideal (M 32 1) .f32 := k0_pay66 I.x0 I.x1 I.x2 I.x3 I.x4 I.x5 I.x6
/-- The query beginnings over all lanes. -/
abbrev qls : IVec (M 1 65536) 32 := k0_pay69 I.x0 I.x1 I.x2 I.x3 I.x4 I.x5 I.x6
/-- The query ends over all lanes. -/
abbrev qhs : IVec (M 1 65536) 32 := k0_pay70 I.x0 I.x1 I.x2 I.x3 I.x4 I.x5 I.x6
/-- The query beginnings over the lanes of a level. -/
def qlat {n : ℕ} (h : Size n) : IVec (M 1 n) 32 := extractStridedSlice (M 1 n) ![0, 0] (qls I) (front h)
/-- The query ends over the lanes of a level. -/
def qhat {n : ℕ} (h : Size n) : IVec (M 1 n) 32 := extractStridedSlice (M 1 n) ![0, 0] (qhs I) (front h)

/-- The leaves. -/
abbrev t6 : FVec Ideal (M 32 65536) .f32 := k0_pay49 I.x0 I.x1 I.x2 I.x3 I.x4 I.x5 I.x6
/-- The nodes at depth 5. -/
abbrev t5 : FVec Ideal (M 32 32768) .f32 := k0_pay53 I.x0 I.x1 I.x2 I.x3 I.x4 I.x5 I.x6
/-- The nodes at depth 4. -/
abbrev t4 : FVec Ideal (M 32 16384) .f32 := k0_pay56 I.x0 I.x1 I.x2 I.x3 I.x4 I.x5 I.x6
/-- The nodes at depth 3. -/
abbrev t3 : FVec Ideal (M 32 8192) .f32 := k0_pay57 I.x0 I.x1 I.x2 I.x3 I.x4 I.x5 I.x6
/-- The nodes at depth 2. -/
abbrev t2 : FVec Ideal (M 32 4096) .f32 := k0_pay61 I.x0 I.x1 I.x2 I.x3 I.x4 I.x5 I.x6
/-- The nodes at depth 1. -/
abbrev t1 : FVec Ideal (M 32 2048) .f32 := k0_pay65 I.x0 I.x1 I.x2 I.x3 I.x4 I.x5 I.x6
/-- The nodes at depth 0. -/
abbrev t0 : FVec Ideal (M 32 1024) .f32 := k0_pay20 (k0_pay48 I.x0 I.x1 I.x2 I.x3 I.x4 I.x5 I.x6) (k0_pay62 I.x0 I.x1 I.x2 I.x3 I.x4 I.x5 I.x6) (k0_pay63 I.x0 I.x1 I.x2 I.x3 I.x4 I.x5 I.x6) (k0_pay64 I.x0 I.x1 I.x2 I.x3 I.x4 I.x5 I.x6)

/-- Every level of nodes is made of the level below. -/
theorem nodes :
    t5 I = up (n := 32768) (n' := 65536) (by unfold Size; decide) rfl (diff I) (t6 I)
    ∧ t4 I = up (n := 16384) (n' := 32768) (by unfold Size; decide) rfl (diff I) (t5 I)
    ∧ t3 I = up (n := 8192) (n' := 16384) (by unfold Size; decide) rfl (diff I) (t4 I)
    ∧ t2 I = up (n := 4096) (n' := 8192) (by unfold Size; decide) rfl (diff I) (t3 I)
    ∧ t1 I = up (n := 2048) (n' := 4096) (by unfold Size; decide) rfl (diff I) (t2 I)
    ∧ t0 I = up (n := 1024) (n' := 2048) (by unfold Size; decide) rfl (diff I) (t1 I) :=
  ⟨rfl, rfl, rfl, rfl, rfl, rfl⟩

/-- The answers of the leaves. -/
def a6 : FVec Ideal (M 32 65536) .f32 :=
  whole (facts (by unfold Size; decide)) (qls I) (qhs I) (View.ld I.x2 r0_5) (View.ld I.x3 r0_5) (t6 I)
    (spread (facts (by unfold Size; decide)) (tokc I))
/-- The answers at depth 5. -/
def a5 : FVec Ideal (M 32 32768) .f32 :=
  pick (facts (by unfold Size; decide)) (qlat I (by unfold Size; decide)) (qhat I (by unfold Size; decide))
    (View.ld I.x2 r0_6) (View.ld I.x3 r0_6) (tokc I) (t5 I)
    (norm (facts (by unfold Size; decide)) (k0_pay71 I.x0 I.x1 I.x2 I.x3 I.x4 I.x5 I.x6))
/-- The answers at depth 4. -/
def a4 : FVec Ideal (M 32 16384) .f32 :=
  pick (facts (by unfold Size; decide)) (qlat I (by unfold Size; decide)) (qhat I (by unfold Size; decide))
    (View.ld I.x2 r0_7) (View.ld I.x3 r0_7) (tokc I) (t4 I)
    (norm (facts (by unfold Size; decide)) (k0_pay73 I.x0 I.x1 I.x2 I.x3 I.x4 I.x5 I.x6))
/-- The answers at depth 3. -/
def a3 : FVec Ideal (M 32 8192) .f32 :=
  k0_pay33 (k0_pay57 I.x0 I.x1 I.x2 I.x3 I.x4 I.x5 I.x6) (k0_pay66 I.x0 I.x1 I.x2 I.x3 I.x4 I.x5 I.x6) (k0_pay69 I.x0 I.x1 I.x2 I.x3 I.x4 I.x5 I.x6) (k0_pay70 I.x0 I.x1 I.x2 I.x3 I.x4 I.x5 I.x6) (k0_pay75 I.x0 I.x1 I.x2 I.x3 I.x4 I.x5 I.x6) (k0_pay76 I.x0 I.x1 I.x2 I.x3 I.x4 I.x5 I.x6) (View.ld I.x2 r0_8) (View.ld I.x3 r0_8)
/-- The answers at depth 2. -/
def a2 : FVec Ideal (M 32 4096) .f32 :=
  k0_pay38 (k0_pay61 I.x0 I.x1 I.x2 I.x3 I.x4 I.x5 I.x6) (k0_pay66 I.x0 I.x1 I.x2 I.x3 I.x4 I.x5 I.x6) (k0_pay69 I.x0 I.x1 I.x2 I.x3 I.x4 I.x5 I.x6) (k0_pay70 I.x0 I.x1 I.x2 I.x3 I.x4 I.x5 I.x6) (k0_pay77 I.x0 I.x1 I.x2 I.x3 I.x4 I.x5 I.x6) (k0_pay78 I.x0 I.x1 I.x2 I.x3 I.x4 I.x5 I.x6) (k0_pay79 I.x0 I.x1 I.x2 I.x3 I.x4 I.x5 I.x6) (View.ld I.x2 r0_9) (View.ld I.x3 r0_9)
/-- The answers at depth 1. -/
def a1 : FVec Ideal (M 32 2048) .f32 :=
  k0_pay43 (k0_pay65 I.x0 I.x1 I.x2 I.x3 I.x4 I.x5 I.x6) (k0_pay66 I.x0 I.x1 I.x2 I.x3 I.x4 I.x5 I.x6) (k0_pay69 I.x0 I.x1 I.x2 I.x3 I.x4 I.x5 I.x6) (k0_pay70 I.x0 I.x1 I.x2 I.x3 I.x4 I.x5 I.x6) (k0_pay80 I.x0 I.x1 I.x2 I.x3 I.x4 I.x5 I.x6) (k0_pay81 I.x0 I.x1 I.x2 I.x3 I.x4 I.x5 I.x6) (k0_pay82 I.x0 I.x1 I.x2 I.x3 I.x4 I.x5 I.x6) (k0_pay83 I.x0 I.x1 I.x2 I.x3 I.x4 I.x5 I.x6) (View.ld I.x2 r0_10) (View.ld I.x3 r0_10)
/-- The answers at depth 0. -/
def a0 : FVec Ideal (M 32 1024) .f32 :=
  pick (facts (by unfold Size; decide)) (qlat I (by unfold Size; decide)) (qhat I (by unfold Size; decide))
    (View.ld I.x2 r0_11) (View.ld I.x3 r0_11) (tokc I) (t0 I)
    (up (n := 1024) (n' := 2048) (by unfold Size; decide) rfl (diff I) (a1 I))

/-- The printed last part of a level, at each level. -/
theorem folds (W : FVec Ideal (M 10 32) .f32) (D : FVec Ideal (M 32 32) .f32) (c : FVec Ideal (M 32 1) .f32) (ql qh : IVec (M 1 65536) 32) :
    (∀ (lo hi : IVec (M 1 8192) 32) (T V : FVec Ideal (M 32 8192) .f32),
      k0_pay33 T c ql qh V (mulf V V) lo hi
        = pick (facts (by unfold Size; decide)) (extractStridedSlice (M 1 8192) ![0, 0] ql (front (by unfold Size; decide))) (extractStridedSlice (M 1 8192) ![0, 0] qh (front (by unfold Size; decide))) lo hi c T (norm (facts (by unfold Size; decide)) V))
    ∧ (∀ (lo hi : IVec (M 1 4096) 32) (g : FVec Ideal (M 1 4096) .f32) (T X Y : FVec Ideal (M 32 4096) .f32),
      k0_pay38 T c ql qh Y (divf (broadcast (M 1 4096) (Scalar.ofBits .f32 0x3F800000#32)) g) (subf X Y) lo hi
        = pick (facts (by unfold Size; decide)) (extractStridedSlice (M 1 4096) ![0, 0] ql (front (by unfold Size; decide))) (extractStridedSlice (M 1 4096) ![0, 0] qh (front (by unfold Size; decide))) lo hi c T (norm (facts (by unfold Size; decide)) (mix (facts (by unfold Size; decide)) g X Y)))
    ∧ (∀ (lo hi : IVec (M 1 2048) 32) (g : FVec Ideal (M 1 2048) .f32) (T X Y : FVec Ideal (M 32 2048) .f32),
      k0_pay43 T c ql qh X Y g (broadcast (M 1 2048) (Scalar.ofBits .f32 0x3F800000#32)) lo hi
        = pick (facts (by unfold Size; decide)) (extractStridedSlice (M 1 2048) ![0, 0] ql (front (by unfold Size; decide))) (extractStridedSlice (M 1 2048) ![0, 0] qh (front (by unfold Size; decide))) lo hi c T (norm (facts (by unfold Size; decide)) (mix (facts (by unfold Size; decide)) (addf (broadcast (M 1 2048) (Scalar.ofBits .f32 0x3F800000#32)) g) X Y)))
    ∧ (∀ (lo hi : IVec (M 1 1024) 32) (T X Y : FVec Ideal (M 32 1024) .f32),
      k0_pay47 W T c ql qh X Y
          (total (facts (by unfold Size; decide)) (mulf X (matmul (DotDims.plain 32 32 1024) (some .fp32) D Y (constant (M 32 1024) .f32 0x00000000#32))))
          (Scalar.ofBits .f32 0x00000000#32) lo hi
        = matmul (φ₁ := .f32) (DotDims.plain 10 32 1024) (some .fp32) W
            (pick (facts (by unfold Size; decide)) (extractStridedSlice (M 1 1024) ![0, 0] ql (front (by unfold Size; decide))) (extractStridedSlice (M 1 1024) ![0, 0] qh (front (by unfold Size; decide))) lo hi c T (norm (facts (by unfold Size; decide)) (mix (facts (by unfold Size; decide)) (gate (facts (by unfold Size; decide)) D X Y) X Y)))
            (constant S10x1024 .f32 0x00000000#32))
    ∧ (∀ (p q : IVec (M 1 2048) 32) (lo hi : IVec (M 1 65536) 32) (T : FVec Ideal (M 32 65536) .f32),
      k0_pay27 D T c p q lo hi
        = mixed (n := 32768) (n' := 65536) (by unfold Size; decide) rfl D (whole (facts (by unfold Size; decide)) (k0_pay25 p) (k0_pay26 q) lo hi T (spread (facts (by unfold Size; decide)) c)))
    ∧ (∀ (lo hi : IVec (M 1 32768) 32) (T V : FVec Ideal (M 32 32768) .f32),
      k0_pay29 D T c ql qh V (sqrt (addf (mulf (total (facts (by unfold Size; decide)) (mulf V V)) (broadcast (M 1 32768) (Scalar.ofBits .f32 0x3D000000#32))) (broadcast (M 1 32768) (Scalar.ofBits .f32 0x358637BD#32))))
          (Scalar.ofBits .f32 0x358637BD#32) lo hi
        = mixed (n := 16384) (n' := 32768) (by unfold Size; decide) rfl D (pick (facts (by unfold Size; decide)) (extractStridedSlice (M 1 32768) ![0, 0] ql (front (by unfold Size; decide))) (extractStridedSlice (M 1 32768) ![0, 0] qh (front (by unfold Size; decide))) lo hi c T (norm (facts (by unfold Size; decide)) V)))
    ∧ (∀ (lo hi : IVec (M 1 16384) 32) (T V : FVec Ideal (M 32 16384) .f32),
      k0_pay31 D T c ql qh V (mulf (total (facts (by unfold Size; decide)) (mulf V V)) (broadcast (M 1 16384) (Scalar.ofBits .f32 0x3D000000#32))) lo hi
        = mixed (n := 8192) (n' := 16384) (by unfold Size; decide) rfl D (pick (facts (by unfold Size; decide)) (extractStridedSlice (M 1 16384) ![0, 0] ql (front (by unfold Size; decide))) (extractStridedSlice (M 1 16384) ![0, 0] qh (front (by unfold Size; decide))) lo hi c T (norm (facts (by unfold Size; decide)) V))) :=
  ⟨fun _ _ _ _ => by
      simp only [k0_pay33, pick, whole, spread, KernelLevel.norm, total, shapeCast_self],
    fun _ _ _ _ _ _ => by
      simp only [k0_pay38, pick, whole, spread, KernelLevel.norm, mix, total, shapeCast_self],
    fun _ _ _ _ _ _ => by
      simp only [k0_pay43, pick, whole, spread, KernelLevel.norm, mix, total, shapeCast_self],
    fun _ _ _ _ _ => by
      simp only [k0_pay47, pick, whole, spread, KernelLevel.norm, mix, gate, total, shapeCast_self]
      rfl,
    fun _ _ _ _ _ => by
      simp only [k0_pay27, whole, spread, mixed, mix, gate, total, shapeCast_self]
      rfl,
    fun _ _ _ _ => by
      simp only [k0_pay29, pick, whole, spread, KernelLevel.norm, mixed, mix, gate, total, shapeCast_self]
      rfl,
    fun _ _ _ _ => by
      simp only [k0_pay31, pick, whole, spread, KernelLevel.norm, mixed, mix, gate, total, shapeCast_self]
      rfl⟩

/-- The mixed halves of the levels of answers, as the body's parts make them of the values before. -/
theorem mixes :
    k0_pay71 I.x0 I.x1 I.x2 I.x3 I.x4 I.x5 I.x6 = k0_pay27 (diff I) (t6 I) (tokc I) (k0_pay67 I.x0 I.x1 I.x2 I.x3 I.x4 I.x5 I.x6) (k0_pay68 I.x0 I.x1 I.x2 I.x3 I.x4 I.x5 I.x6) (View.ld I.x2 r0_5) (View.ld I.x3 r0_5)
    ∧ qls I = k0_pay25 (k0_pay67 I.x0 I.x1 I.x2 I.x3 I.x4 I.x5 I.x6)
    ∧ qhs I = k0_pay26 (k0_pay68 I.x0 I.x1 I.x2 I.x3 I.x4 I.x5 I.x6)
    ∧ k0_pay73 I.x0 I.x1 I.x2 I.x3 I.x4 I.x5 I.x6 = k0_pay29 (diff I) (t5 I) (tokc I) (qls I) (qhs I) (k0_pay71 I.x0 I.x1 I.x2 I.x3 I.x4 I.x5 I.x6) (k0_pay72 I.x0 I.x1 I.x2 I.x3 I.x4 I.x5 I.x6) (Scalar.ofBits .f32 0x358637BD#32) (View.ld I.x2 r0_6) (View.ld I.x3 r0_6)
    ∧ k0_pay72 I.x0 I.x1 I.x2 I.x3 I.x4 I.x5 I.x6 = sqrt (addf (mulf (total (facts (by unfold Size; decide)) (mulf (k0_pay71 I.x0 I.x1 I.x2 I.x3 I.x4 I.x5 I.x6) (k0_pay71 I.x0 I.x1 I.x2 I.x3 I.x4 I.x5 I.x6))) (broadcast (M 1 32768) (Scalar.ofBits .f32 0x3D000000#32))) (broadcast (M 1 32768) (Scalar.ofBits .f32 0x358637BD#32)))
    ∧ k0_pay75 I.x0 I.x1 I.x2 I.x3 I.x4 I.x5 I.x6 = k0_pay31 (diff I) (t4 I) (tokc I) (qls I) (qhs I) (k0_pay73 I.x0 I.x1 I.x2 I.x3 I.x4 I.x5 I.x6) (k0_pay74 I.x0 I.x1 I.x2 I.x3 I.x4 I.x5 I.x6) (View.ld I.x2 r0_7) (View.ld I.x3 r0_7)
    ∧ k0_pay74 I.x0 I.x1 I.x2 I.x3 I.x4 I.x5 I.x6 = mulf (total (facts (by unfold Size; decide)) (mulf (k0_pay73 I.x0 I.x1 I.x2 I.x3 I.x4 I.x5 I.x6) (k0_pay73 I.x0 I.x1 I.x2 I.x3 I.x4 I.x5 I.x6))) (broadcast (M 1 16384) (Scalar.ofBits .f32 0x3D000000#32))
    ∧ k0_pay76 I.x0 I.x1 I.x2 I.x3 I.x4 I.x5 I.x6 = mulf (k0_pay75 I.x0 I.x1 I.x2 I.x3 I.x4 I.x5 I.x6) (k0_pay75 I.x0 I.x1 I.x2 I.x3 I.x4 I.x5 I.x6) :=
  ⟨rfl, rfl, rfl, rfl, rfl, rfl, rfl, rfl⟩

/-- The mixed halves of the level of answers at depth 6. -/
theorem mixed6 : k0_pay71 I.x0 I.x1 I.x2 I.x3 I.x4 I.x5 I.x6 = mixed (n := 32768) (n' := 65536) (by unfold Size; decide) rfl (diff I) (a6 I) := by
  rw [(mixes I).1, (folds (View.ld I.x6 r0_2) (diff I) (tokc I) (qls I) (qhs I)).2.2.2.2.1, ← (mixes I).2.1, ← (mixes I).2.2.1]
  unfold a6
  with_reducible rfl

/-- The mixed halves of the level of answers at depth 5. -/
theorem mixed5 : k0_pay73 I.x0 I.x1 I.x2 I.x3 I.x4 I.x5 I.x6 = mixed (n := 16384) (n' := 32768) (by unfold Size; decide) rfl (diff I) (a5 I) := by
  rw [(mixes I).2.2.2.1, (mixes I).2.2.2.2.1, (folds (View.ld I.x6 r0_2) (diff I) (tokc I) (qls I) (qhs I)).2.2.2.2.2.1]
  unfold a5 qlat qhat
  with_reducible rfl

/-- The mixed halves of the level of answers at depth 4. -/
theorem mixed4 : k0_pay75 I.x0 I.x1 I.x2 I.x3 I.x4 I.x5 I.x6 = mixed (n := 8192) (n' := 16384) (by unfold Size; decide) rfl (diff I) (a4 I) := by
  rw [(mixes I).2.2.2.2.2.1, (mixes I).2.2.2.2.2.2.1, (folds (View.ld I.x6 r0_2) (diff I) (tokc I) (qls I) (qhs I)).2.2.2.2.2.2]
  unfold a4 qlat qhat
  with_reducible rfl

/-- The values the body takes from the answers at depths 3 and 2. -/
theorem parts :
    k0_pay77 I.x0 I.x1 I.x2 I.x3 I.x4 I.x5 I.x6 = (extractStridedSlice (M 32 4096) ![0, 4096] (a3 I) (upper rfl))
    ∧ k0_pay78 I.x0 I.x1 I.x2 I.x3 I.x4 I.x5 I.x6 = divf (broadcast (M 1 4096) (Scalar.ofBits .f32 0x3F800000#32)) (gate (facts (by unfold Size; decide)) (diff I) (extractStridedSlice (M 32 4096) ![0, 0] (a3 I) (lower rfl)) (extractStridedSlice (M 32 4096) ![0, 4096] (a3 I) (upper rfl)))
    ∧ k0_pay79 I.x0 I.x1 I.x2 I.x3 I.x4 I.x5 I.x6 = subf (extractStridedSlice (M 32 4096) ![0, 0] (a3 I) (lower rfl)) (extractStridedSlice (M 32 4096) ![0, 4096] (a3 I) (upper rfl))
    ∧ k0_pay80 I.x0 I.x1 I.x2 I.x3 I.x4 I.x5 I.x6 = (extractStridedSlice (M 32 2048) ![0, 0] (a2 I) (lower rfl))
    ∧ k0_pay81 I.x0 I.x1 I.x2 I.x3 I.x4 I.x5 I.x6 = (extractStridedSlice (M 32 2048) ![0, 2048] (a2 I) (upper rfl))
    ∧ k0_pay82 I.x0 I.x1 I.x2 I.x3 I.x4 I.x5 I.x6 = exp (subf (broadcast (M 1 2048) (Scalar.ofBits .f32 0x00000000#32)) (total (facts (by unfold Size; decide)) (mulf (extractStridedSlice (M 32 2048) ![0, 0] (a2 I) (lower rfl))
        (matmul (DotDims.plain 32 32 2048) (some .fp32) (diff I) (extractStridedSlice (M 32 2048) ![0, 2048] (a2 I) (upper rfl)) (constant (M 32 2048) .f32 0x00000000#32)))))
    ∧ k0_pay83 I.x0 I.x1 I.x2 I.x3 I.x4 I.x5 I.x6 = (broadcast (M 1 2048) (Scalar.ofBits .f32 0x3F800000#32)) :=
  ⟨rfl, rfl, rfl, rfl, rfl, rfl, rfl⟩

/-- The answers at depth 5 are picked from the nodes, the token and what the level below combines to. -/
theorem a5_eq : a5 I =
    pick (facts (by unfold Size; decide)) (qlat I (by unfold Size; decide)) (qhat I (by unfold Size; decide))
      (View.ld I.x2 r0_6) (View.ld I.x3 r0_6) (tokc I) (t5 I)
      (up (n := 32768) (n' := 65536) (by unfold Size; decide) rfl (diff I) (a6 I)) := by
  unfold a5 up
  rw [mixed6 I]

/-- The answers at depth 4 are picked from the nodes, the token and what the level below combines to. -/
theorem a4_eq : a4 I =
    pick (facts (by unfold Size; decide)) (qlat I (by unfold Size; decide)) (qhat I (by unfold Size; decide))
      (View.ld I.x2 r0_7) (View.ld I.x3 r0_7) (tokc I) (t4 I)
      (up (n := 16384) (n' := 32768) (by unfold Size; decide) rfl (diff I) (a5 I)) := by
  unfold a4 up
  rw [mixed5 I]

/-- The answers at depth 3 are picked from the nodes, the token and what the level below combines to. -/
theorem a3_eq : a3 I =
    pick (facts (by unfold Size; decide)) (qlat I (by unfold Size; decide)) (qhat I (by unfold Size; decide))
      (View.ld I.x2 r0_8) (View.ld I.x3 r0_8) (tokc I) (t3 I)
      (up (n := 8192) (n' := 16384) (by unfold Size; decide) rfl (diff I) (a4 I)) := by
  unfold a3 up
  rw [(mixes I).2.2.2.2.2.2.2, (folds (View.ld I.x6 r0_2) (diff I) (tokc I) (qls I) (qhs I)).1, mixed4 I]
  unfold qlat qhat
  with_reducible rfl

/-- The answers at depth 2 are picked from the nodes, the token and what the level below combines to. -/
theorem a2_eq : a2 I =
    pick (facts (by unfold Size; decide)) (qlat I (by unfold Size; decide)) (qhat I (by unfold Size; decide))
      (View.ld I.x2 r0_9) (View.ld I.x3 r0_9) (tokc I) (t2 I)
      (up (n := 4096) (n' := 8192) (by unfold Size; decide) rfl (diff I) (a3 I)) := by
  unfold a2 up mixed
  rw [(parts I).1, (parts I).2.1, (parts I).2.2.1, (folds (View.ld I.x6 r0_2) (diff I) (tokc I) (qls I) (qhs I)).2.1]
  unfold qlat qhat
  with_reducible rfl

/-- The answers at depth 1 are picked from the nodes, the token and what the level below combines to. -/
theorem a1_eq : a1 I =
    pick (facts (by unfold Size; decide)) (qlat I (by unfold Size; decide)) (qhat I (by unfold Size; decide))
      (View.ld I.x2 r0_10) (View.ld I.x3 r0_10) (tokc I) (t1 I)
      (up (n := 2048) (n' := 4096) (by unfold Size; decide) rfl (diff I) (a2 I)) := by
  unfold a1 up mixed
  rw [(parts I).2.2.2.1, (parts I).2.2.2.2.1, (parts I).2.2.2.2.2.1, (parts I).2.2.2.2.2.2, (folds (View.ld I.x6 r0_2) (diff I) (tokc I) (qls I) (qhs I)).2.2.1]
  unfold qlat qhat gate
  with_reducible rfl

/-- The values the body takes from the answers at depth 1. -/
theorem tops :
    k0_pay44 (k0_pay65 I.x0 I.x1 I.x2 I.x3 I.x4 I.x5 I.x6) (k0_pay66 I.x0 I.x1 I.x2 I.x3 I.x4 I.x5 I.x6) (k0_pay69 I.x0 I.x1 I.x2 I.x3 I.x4 I.x5 I.x6) (k0_pay70 I.x0 I.x1 I.x2 I.x3 I.x4 I.x5 I.x6) (k0_pay80 I.x0 I.x1 I.x2 I.x3 I.x4 I.x5 I.x6) (k0_pay81 I.x0 I.x1 I.x2 I.x3 I.x4 I.x5 I.x6) (k0_pay82 I.x0 I.x1 I.x2 I.x3 I.x4 I.x5 I.x6) (k0_pay83 I.x0 I.x1 I.x2 I.x3 I.x4 I.x5 I.x6) (View.ld I.x2 r0_10) (View.ld I.x3 r0_10) = (extractStridedSlice (M 32 1024) ![0, 0] (a1 I) (lower rfl))
    ∧ k0_pay45 (k0_pay65 I.x0 I.x1 I.x2 I.x3 I.x4 I.x5 I.x6) (k0_pay66 I.x0 I.x1 I.x2 I.x3 I.x4 I.x5 I.x6) (k0_pay69 I.x0 I.x1 I.x2 I.x3 I.x4 I.x5 I.x6) (k0_pay70 I.x0 I.x1 I.x2 I.x3 I.x4 I.x5 I.x6) (k0_pay80 I.x0 I.x1 I.x2 I.x3 I.x4 I.x5 I.x6) (k0_pay81 I.x0 I.x1 I.x2 I.x3 I.x4 I.x5 I.x6) (k0_pay82 I.x0 I.x1 I.x2 I.x3 I.x4 I.x5 I.x6) (k0_pay83 I.x0 I.x1 I.x2 I.x3 I.x4 I.x5 I.x6) (View.ld I.x2 r0_10) (View.ld I.x3 r0_10) = (extractStridedSlice (M 32 1024) ![0, 1024] (a1 I) (upper rfl))
    ∧ k0_pay46 (diff I) (k0_pay65 I.x0 I.x1 I.x2 I.x3 I.x4 I.x5 I.x6) (k0_pay66 I.x0 I.x1 I.x2 I.x3 I.x4 I.x5 I.x6) (k0_pay69 I.x0 I.x1 I.x2 I.x3 I.x4 I.x5 I.x6) (k0_pay70 I.x0 I.x1 I.x2 I.x3 I.x4 I.x5 I.x6) (k0_pay80 I.x0 I.x1 I.x2 I.x3 I.x4 I.x5 I.x6) (k0_pay81 I.x0 I.x1 I.x2 I.x3 I.x4 I.x5 I.x6) (k0_pay82 I.x0 I.x1 I.x2 I.x3 I.x4 I.x5 I.x6) (k0_pay83 I.x0 I.x1 I.x2 I.x3 I.x4 I.x5 I.x6) (View.ld I.x2 r0_10) (View.ld I.x3 r0_10) = total (facts (by unfold Size; decide)) (mulf (extractStridedSlice (M 32 1024) ![0, 0] (a1 I) (lower rfl))
        (matmul (DotDims.plain 32 32 1024) (some .fp32) (diff I) (extractStridedSlice (M 32 1024) ![0, 1024] (a1 I) (upper rfl)) (constant (M 32 1024) .f32 0x00000000#32)))
    ∧ out0_7 I.x0 I.x1 I.x2 I.x3 I.x4 I.x5 I.x6 = View.canon [⟨r0_12, k0_pay47 (View.ld I.x6 r0_2) (t0 I) (tokc I) (qls I) (qhs I)
        (k0_pay44 (k0_pay65 I.x0 I.x1 I.x2 I.x3 I.x4 I.x5 I.x6) (k0_pay66 I.x0 I.x1 I.x2 I.x3 I.x4 I.x5 I.x6) (k0_pay69 I.x0 I.x1 I.x2 I.x3 I.x4 I.x5 I.x6) (k0_pay70 I.x0 I.x1 I.x2 I.x3 I.x4 I.x5 I.x6) (k0_pay80 I.x0 I.x1 I.x2 I.x3 I.x4 I.x5 I.x6) (k0_pay81 I.x0 I.x1 I.x2 I.x3 I.x4 I.x5 I.x6) (k0_pay82 I.x0 I.x1 I.x2 I.x3 I.x4 I.x5 I.x6) (k0_pay83 I.x0 I.x1 I.x2 I.x3 I.x4 I.x5 I.x6) (View.ld I.x2 r0_10) (View.ld I.x3 r0_10)) (k0_pay45 (k0_pay65 I.x0 I.x1 I.x2 I.x3 I.x4 I.x5 I.x6) (k0_pay66 I.x0 I.x1 I.x2 I.x3 I.x4 I.x5 I.x6) (k0_pay69 I.x0 I.x1 I.x2 I.x3 I.x4 I.x5 I.x6) (k0_pay70 I.x0 I.x1 I.x2 I.x3 I.x4 I.x5 I.x6) (k0_pay80 I.x0 I.x1 I.x2 I.x3 I.x4 I.x5 I.x6) (k0_pay81 I.x0 I.x1 I.x2 I.x3 I.x4 I.x5 I.x6) (k0_pay82 I.x0 I.x1 I.x2 I.x3 I.x4 I.x5 I.x6) (k0_pay83 I.x0 I.x1 I.x2 I.x3 I.x4 I.x5 I.x6) (View.ld I.x2 r0_10) (View.ld I.x3 r0_10)) (k0_pay46 (diff I) (k0_pay65 I.x0 I.x1 I.x2 I.x3 I.x4 I.x5 I.x6) (k0_pay66 I.x0 I.x1 I.x2 I.x3 I.x4 I.x5 I.x6) (k0_pay69 I.x0 I.x1 I.x2 I.x3 I.x4 I.x5 I.x6) (k0_pay70 I.x0 I.x1 I.x2 I.x3 I.x4 I.x5 I.x6) (k0_pay80 I.x0 I.x1 I.x2 I.x3 I.x4 I.x5 I.x6) (k0_pay81 I.x0 I.x1 I.x2 I.x3 I.x4 I.x5 I.x6) (k0_pay82 I.x0 I.x1 I.x2 I.x3 I.x4 I.x5 I.x6) (k0_pay83 I.x0 I.x1 I.x2 I.x3 I.x4 I.x5 I.x6) (View.ld I.x2 r0_10) (View.ld I.x3 r0_10))
        (Scalar.ofBits .f32 0x00000000#32) (View.ld I.x2 r0_11) (View.ld I.x3 r0_11)⟩] :=
  ⟨rfl, rfl, rfl, rfl⟩

/-- What the body leaves in its block: the output layer times the answers of the roots. -/
theorem out_eq : out0_7 I.x0 I.x1 I.x2 I.x3 I.x4 I.x5 I.x6
    = View.canon [⟨r0_12, matmul (φ₁ := .f32) (DotDims.plain 10 32 1024) (some .fp32) (View.ld I.x6 r0_2) (a0 I)
        (constant S10x1024 .f32 0x00000000#32)⟩] := by
  rw [(tops I).2.2.2, (tops I).1, (tops I).2.1, (tops I).2.2.1, (folds (View.ld I.x6 r0_2) (diff I) (tokc I) (qls I) (qhs I)).2.2.2.1]
  unfold a0 up mixed qlat qhat
  with_reducible rfl

end Cert.KernelTree

end
-- ==== Proof.Tables.lean ====
/- The two tables the kernel reads: at the lanes of the node that block `s` holds at depth `d`, the first and the last
   leaf under that node. -/
module

public import proofs.«01_k».proof.KernelIdeal
public import proofs.«01_k».proof.Proof.Spec
public import Mathlib.Tactic.IntervalCases

@[expose] public section

set_option maxRecDepth 16384

noncomputable section

namespace Cert.Tables

open Cert.KernelIdeal Cert.Spec

/-- The depth of node `t` of the tree numbered from the root, depth by depth. -/
def depth (t : ℕ) : ℕ :=
  if t < 1 then 0 else if t < 3 then 1 else if t < 7 then 2 else if t < 15 then 3 else if t < 31 then 4
    else if t < 63 then 5 else 6

/-- The first leaf under node `t`. -/
def firstOf (t : ℕ) : BitVec 32 := first (6 - depth t) (br (depth t) (t + 1 - 2 ^ depth t))

/-- The last leaf under node `t`. -/
def lastOf (t : ℕ) : BitVec 32 := last (6 - depth t) (br (depth t) (t + 1 - 2 ^ depth t))

/-- The first constant holds, at each node, the first leaf under it. -/
theorem first_table (t : Fin 127) : lit1 t = firstOf t.val := by revert t; decide +kernel

/-- The second constant holds, at each node, the last leaf under it. -/
theorem last_table (t : Fin 127) : lit2 t = lastOf t.val := by revert t; decide +kernel

/-- The first table: the first constant, each entry at the 1024 lanes of its node. -/
def firstLane (k : Fin 130048) : BitVec 32 := lit1 ⟨k.val / 1024, by omega⟩

/-- The second table: the second constant, each entry at the 1024 lanes of its node. -/
def lastLane (k : Fin 130048) : BitVec 32 := lit2 ⟨k.val / 1024, by omega⟩

/-- The depth of the node that block `s` holds at depth `d`. -/
theorem depth_eq {d s : ℕ} (hd : d ≤ 6) (hs : s < 2 ^ d) : depth (2 ^ d - 1 + s) = d := by
  unfold depth
  interval_cases d <;> norm_num at hs ⊢ <;> (repeat' split) <;> omega

/-- The first table at the lanes of block `s` at depth `d`. -/
theorem firstLane_at {d s b : ℕ} (hd : d ≤ 6) (hs : s < 2 ^ d) (hb : b < 1024) (h : (2 ^ d - 1 + s) * 1024 + b < 130048) :
    firstLane ⟨(2 ^ d - 1 + s) * 1024 + b, h⟩ = first (6 - d) (br d s) := by
  have hp := Nat.one_le_two_pow (n := d)
  refine (first_table _).trans ?_
  show firstOf (((2 ^ d - 1 + s) * 1024 + b) / 1024) = _
  rw [show ((2 ^ d - 1 + s) * 1024 + b) / 1024 = 2 ^ d - 1 + s by omega]
  unfold firstOf
  rw [depth_eq hd hs, show 2 ^ d - 1 + s + 1 - 2 ^ d = s by omega]

/-- The second table at the lanes of block `s` at depth `d`. -/
theorem lastLane_at {d s b : ℕ} (hd : d ≤ 6) (hs : s < 2 ^ d) (hb : b < 1024) (h : (2 ^ d - 1 + s) * 1024 + b < 130048) :
    lastLane ⟨(2 ^ d - 1 + s) * 1024 + b, h⟩ = last (6 - d) (br d s) := by
  have hp := Nat.one_le_two_pow (n := d)
  refine (last_table _).trans ?_
  show lastOf (((2 ^ d - 1 + s) * 1024 + b) / 1024) = _
  rw [show ((2 ^ d - 1 + s) * 1024 + b) / 1024 = 2 ^ d - 1 + s by omega]
  unfold lastOf
  rw [depth_eq hd hs, show 2 ^ d - 1 + s + 1 - 2 ^ d = s by omega]

/-- The order of the leaves the kernel is given: block `s` holds the leaf that the deepest level of the tree puts
    there. -/
theorem lit0_at (s : Fin 64) : lit0 s = BitVec.ofNat 32 (br 6 s.val) := by
  revert s; decide

end Cert.Tables

end
-- ==== Proof.KernelLanes.lean ====
/- The kernel's levels, lane by lane: lane `s * 1024 + b` of the level at depth `d` holds, for batch row `b`, the node
   `Cert.Spec.br d s`, and its answer. -/
module

public import proofs.«01_k».proof.Proof.KernelTree
public import proofs.«01_k».proof.Proof.Tables
public import Idealize.ShloMosaic.Lib.MatmulPlain

@[expose] public section

set_option maxRecDepth 16384

noncomputable section

namespace Cert.KernelTree

open Idealize.ShloMosaic Idealize.ShloMosaic.ValueIdx Cert.Column Cert.Spec Cert.KernelLevel
open Cert.KernelIdeal Cert.KernelIdeal.Gen

/-- The level `X` at depth `d` holds, for every batch row, the columns that `c` gives the row's nodes. -/
def Lanes (d : ℕ) {n : ℕ} (X : FVec Ideal (M 32 n) .f32) (c : Fin 1024 → ℕ → Col) : Prop :=
  ∀ (s : ℕ) (b : Fin 1024) (i : Fin 32) (p : Fin n), s < 2 ^ d → p.val = s * 1024 + b.val → X (ix2 i p) = c b (br d s) i

/-- The row `v` at depth `d` holds, for every batch row, the words that `f` gives the row's nodes. -/
def Words (d : ℕ) {n : ℕ} (v : IVec (M 1 n) 32) (f : Fin 1024 → ℕ → BitVec 32) : Prop :=
  ∀ (s : ℕ) (b : Fin 1024) (p : Fin n), s < 2 ^ d → p.val = s * 1024 + b.val → v (ix2 0 p) = f b (br d s)

/-- The parents of a level hold what `rcomb` makes of the real columns of the level. -/
theorem up_lanes {d n n' : ℕ} (h : Size n) (hn : n' = 2 * n) (hd : n = 2 ^ d * 1024)
    (W : Fin 2 → Fin 1024 → EReal) (D : FVec Ideal (M 32 32) .f32)
    (hD : ∀ i j : Fin 32, D (ix2 i j) = W 0 ⟨i.val * 32 + j.val, by omega⟩ - W 1 ⟨i.val * 32 + j.val, by omega⟩)
    (hW : ∀ r k, IsReal (W r k)) {X : FVec Ideal (M 32 n') .f32} {c : Fin 1024 → ℕ → Col}
    (hc : ∀ b j i, IsReal (c b j i)) (hX : Lanes (d + 1) X c) :
    Lanes d (up h hn D X) fun b j => rcomb W (c b (2 * j)) (c b (2 * j + 1)) := by
  intro s b i p hs hp
  have hl := p.isLt
  have ea : (fun i => extractStridedSlice (M 32 n) ![0, 0] X (lower hn) (ix2 i p)) = c b (2 * br d s) := by
    funext i'
    rw [slice2_axis1_apply 0 X (lower hn) i' p ⟨p.val, by omega⟩ (Nat.zero_add _).symm,
      hX s b i' _ (by rw [pow_succ]; omega) hp, br_left hs]
  have eb : (fun i => extractStridedSlice (M 32 n) ![0, n] X (upper hn) (ix2 i p)) = c b (2 * br d s + 1) := by
    funext i'
    rw [slice2_axis1_apply n X (upper hn) i' p ⟨n + p.val, by omega⟩ rfl,
      hX (s + 2 ^ d) b i' _ (by rw [pow_succ]; omega) (by show n + p.val = _; rw [hp, hd]; ring), br_right]
  show comb (facts h) D _ _ (ix2 i p) = _
  rw [comb_apply, ea, eb]
  exact congrFun (kcomb_eq W _ _ _ hD hW (hc b _) (hc b _)) i

/-- What the kernel's inputs hold: the ids in the order of its lanes, the two tables, the embedding, and the difference
    of the two rules. -/
structure Fed (I : Ins) (W : Fin 2 → Fin 1024 → EReal) (x : Fin 1024 → ℕ → BitVec 32) : Prop where
  ids : Words 6 (n := 65536) I.x0 x
  firsts : ∀ k : Fin 130048, I.x2 (ix2 0 k) = Cert.Tables.firstLane k
  lasts : ∀ k : Fin 130048, I.x3 (ix2 0 k) = Cert.Tables.lastLane k
  rules : ∀ i j : Fin 32, I.x5 (ix2 i j) = W 0 ⟨i.val * 32 + j.val, by omega⟩ - W 1 ⟨i.val * 32 + j.val, by omega⟩
  small : ∀ b j, (x b j).toNat < 11
  realW : ∀ r k, IsReal (W r k)
  realTok : ∀ i : Fin 32, IsReal (I.x4 (ix2 10 i))

/-- The leaf of batch row `b` at place `j`. -/
def leafOf (I : Ins) (x : Fin 1024 → ℕ → BitVec 32) (b : Fin 1024) (j : ℕ) : Col :=
  leafCol (fun r i => I.x4 (ix2 r i)) (x b j)

/-- Every leaf is real. -/
theorem isReal_leafOf (I : Ins) (x : Fin 1024 → ℕ → BitVec 32) (b : Fin 1024) (j : ℕ) (i : Fin 32) : IsReal (leafOf I x b j i) :=
  isReal_rnorm _ i

/-- The token. -/
def tokOf (I : Ins) : Col := fun i => I.x4 (ix2 10 i)

variable (I : Ins)

/-- A load of all of a two-axis array. -/
theorem ld_all {k n : ℕ} {e : EltTy} (X : Vec Ideal (M k n) e) (inb) :
    View.ld X (Rect.unit (s := M k n) ![0, 0] (M k n).size inb) = X :=
  View.ld_unit_zero (funext fun a => by match a with | ⟨0, _⟩ => rfl | ⟨1, _⟩ => rfl) inb X

/-- The difference of the rules is the kernel's sixth input. -/
theorem diff_eq : diff I = I.x5 := by
  have e : diff I = shapeCast S32x32 (View.ld I.x5 r0_1) shapeCasts_S32x32_S32x32 := rfl
  exact e.trans ((shapeCast_self _ _).trans (ld_all I.x5 _))

/-- The transposed embedding, filled with zero columns, read at a column of the embedding. -/
theorem embT_apply (E : Vec Ideal S11x32 .f32) (i : Fin 32) (k : Fin 16) (r : Fin 11) (hk : k.val = r.val) :
    k0_pay2 E (ix2 i k) = E (ix2 r i) := by
  unfold k0_pay2
  refine (transpose_ix2_apply _ _ i k).trans ?_
  refine concatenate_pair_apply_left (t := S16x32) (s₁ := S11x32) (s₂ := S5x32) (0 : Fin 2) _ _ _ (ix2 k i) rfl (ix2 r i) fun a => ?_
  match a with
  | ⟨0, _⟩ => exact hk.symm
  | ⟨1, _⟩ => rfl

/-- The token's column read at an index. -/
theorem tokc_apply (i : Fin 32) (k : Fin 1) : tokc I (ix2 i k) = tokOf I i := by
  have e : tokc I = extractStridedSlice S32x1 ![0, 10] (k0_pay2 (View.ld I.x4 r0_0)) slices_S32x16_o0_10_S32x1 := rfl
  rw [e, slice2_axis1_apply 10 _ _ i k (10 : Fin 16) (by show 10 = 10 + k.val; omega),
    embT_apply _ i _ 10 rfl]
  exact congrFun (ld_all I.x4 _) _

/-- The printed one-hot entry. -/
theorem hot (x : BitVec 32) (k : ℕ) :
    (FloatOps.sitofp (F := Ideal) .f32 ((IntOp.cmpi .eq x (BitVec.ofNat 32 k)).setWidth 32) : EReal)
      = if x = BitVec.ofNat 32 k then 1 else 0 := by
  by_cases h : x = BitVec.ofNat 32 k
  · rw [if_pos h, h]
    have e : (IntOp.cmpi .eq (BitVec.ofNat 32 k) (BitVec.ofNat 32 k)).setWidth 32 = 1#32 := by simp [IntOp.cmpi]
    rw [e]
    show (((1#32 : BitVec 32).toInt : ℝ) : EReal) = 1
    have : (1#32 : BitVec 32).toInt = 1 := by decide
    rw [this]; simp
  · rw [if_neg h]
    have e : (IntOp.cmpi .eq x (BitVec.ofNat 32 k)).setWidth 32 = 0#32 := by
      have hb : (x == BitVec.ofNat 32 k) = false := by simpa using h
      show BitVec.setWidth 32 (BitVec.ofBool (x == BitVec.ofNat 32 k)) = 0#32
      rw [hb]; rfl
    rw [e]
    show (((0#32 : BitVec 32).toInt : ℝ) : EReal) = 0
    simp

/-- The shapes of the embedding's own normalisation fit together. -/
theorem facts16 : Facts 16 := by constructor <;> decide

/-- The one-hot columns of the ids. -/
def hots (v : Vec Ideal S1x65536 .i32) : FVec Ideal S16x65536 .f32 :=
  sitofp .f32 (extui 32 (cmpi .eq (broadcastTo S16x65536 (shapeCast S1x65536 (shapeCast S1x65536 v shapeCasts_S1x65536_S1x65536)
    shapeCasts_S1x65536_S1x65536) broadcasts_S1x65536_S16x65536) (iota .tc S16x65536 32 [0] iota_S16x65536_d0_w32)) natLt_1_32)

/-- The one-hot columns read at an index. -/
theorem hots_apply (v : Vec Ideal S1x65536 .i32) (k : Fin 16) (p : Fin 65536) :
    hots v (ix2 k p) = if v (ix2 0 p) = BitVec.ofNat 32 k.val then 1 else 0 := by
  rw [← hot]
  unfold hots
  rw [shapeCast_self, shapeCast_self]
  have e := broadcastTo_1b_ab_apply v broadcasts_S1x65536_S16x65536 k p
  show FloatOps.sitofp .f32 ((IntOp.cmpi .eq (broadcastTo S16x65536 v broadcasts_S1x65536_S16x65536 (ix2 k p)) _).setWidth 32) = _
  rw [e, iota_single_apply]

/-- The leaves read at an index: the normalised row of the embedding that the lane's id names. -/
theorem leaves_apply (i : Fin 32) (p : Fin 65536) (h : (I.x0 (ix2 0 p)).toNat < 11) :
    t6 I (ix2 i p) = leafCol (fun r i => I.x4 (ix2 r i)) (I.x0 (ix2 0 p)) i := by
  have e : t6 I = matmul (DotDims.plain 32 16 65536) none (norm facts16 (k0_pay2 (View.ld I.x4 r0_0)))
      (hots (View.ld I.x0 r0_3)) (constant S32x65536 .f32 0x00000000#32) := rfl
  rw [e, ld_all I.x0, ld_all I.x4]
  refine (Ideal.matmul_plain_apply _ _ _ _ i p).trans ?_
  have hz : (constant (F := Ideal) S32x65536 .f32 0x00000000#32 (ix2 i p) : EReal) = 0 := Ideal.ofBits_zero_f32
  rw [hz]
  set x := I.x0 (ix2 0 p) with hx
  have hr := (row x).isLt
  rw [Finset.sum_eq_single (⟨(row x).val, by omega⟩ : Fin 16)]
  · rw [hots_apply, if_pos (id_word h), norm_apply, mul_one, knorm_eq]
    unfold leafCol
    rw [show (fun i => k0_pay2 I.x4 (ix2 i (⟨(row x).val, by omega⟩ : Fin 16))) = fun i => I.x4 (ix2 (row x) i) from
      funext fun i' => embT_apply I.x4 i' _ _ rfl]
    simp
  · intro k _ hk
    rw [hots_apply, if_neg, mul_zero]
    intro he
    refine hk (Fin.ext ?_)
    have h2 : x.toNat = k.val := by
      rw [hx, he, BitVec.toNat_ofNat]; have := k.isLt; omega
    show k.val = min x.toNat 10
    omega
  · intro hn; exact absurd (Finset.mem_univ _) hn

/-- The first depth's nodes are made of the leaves, and so on: every level holds the nodes of its depth. -/
theorem nodes_lanes {W : Fin 2 → Fin 1024 → EReal} {x : Fin 1024 → ℕ → BitVec 32} (G : Fed I W x) :
    Lanes 6 (t6 I) (fun b => node W (leafOf I x b) 0) ∧ Lanes 5 (t5 I) (fun b => node W (leafOf I x b) 1)
    ∧ Lanes 4 (t4 I) (fun b => node W (leafOf I x b) 2) ∧ Lanes 3 (t3 I) (fun b => node W (leafOf I x b) 3)
    ∧ Lanes 2 (t2 I) (fun b => node W (leafOf I x b) 4) ∧ Lanes 1 (t1 I) (fun b => node W (leafOf I x b) 5)
    ∧ Lanes 0 (t0 I) (fun b => node W (leafOf I x b) 6) := by
  have hD := fun i j => (congrFun (diff_eq I) (ix2 i j)).trans (G.rules i j)
  have hc := fun h b j i => isReal_node W (leaf := leafOf I x b) (fun j i => isReal_leafOf I x b j i) h j i
  obtain ⟨e5, e4, e3, e2, e1, e0⟩ := nodes I
  have l6 : Lanes 6 (t6 I) (fun b => node W (leafOf I x b) 0) := by
    intro s b i p hs hp
    have hx := G.ids s b p hs hp
    rw [leaves_apply I i p (by rw [hx]; exact G.small b _), hx]
    rfl
  have l5 : Lanes 5 (t5 I) (fun b => node W (leafOf I x b) 1) := e5 ▸ up_lanes _ rfl rfl W _ hD G.realW (hc 0) l6
  have l4 : Lanes 4 (t4 I) (fun b => node W (leafOf I x b) 2) := e4 ▸ up_lanes _ rfl rfl W _ hD G.realW (hc 1) l5
  have l3 : Lanes 3 (t3 I) (fun b => node W (leafOf I x b) 3) := e3 ▸ up_lanes _ rfl rfl W _ hD G.realW (hc 2) l4
  have l2 : Lanes 2 (t2 I) (fun b => node W (leafOf I x b) 4) := e2 ▸ up_lanes _ rfl rfl W _ hD G.realW (hc 3) l3
  have l1 : Lanes 1 (t1 I) (fun b => node W (leafOf I x b) 5) := e1 ▸ up_lanes _ rfl rfl W _ hD G.realW (hc 4) l2
  have l0 : Lanes 0 (t0 I) (fun b => node W (leafOf I x b) 6) := e0 ▸ up_lanes _ rfl rfl W _ hD G.realW (hc 5) l1
  exact ⟨l6, l5, l4, l3, l2, l1, l0⟩

/-- A row that repeats `f` every 1024 lanes. -/
def Cyc {n : ℕ} (v : IVec (M 1 n) 32) (f : Fin 1024 → BitVec 32) : Prop :=
  ∀ (b : Fin 1024) (p : Fin n), p.val % 1024 = b.val → v (ix2 0 p) = f b

/-- A row joined with itself repeats what the row repeats. -/
theorem cyc_twice {n n' : ℕ} (hn : n' = 2 * n) (h2 : 1024 ∣ n) {v : IVec (M 1 n) 32} {f : Fin 1024 → BitVec 32} (hv : Cyc v f)
    (h : Shape.Concatenates [M 1 n, M 1 n] (M 1 n') (1 : Fin 2)) :
    Cyc (concatenate (M 1 n') (1 : Fin 2) [⟨M 1 n, v⟩, ⟨M 1 n, v⟩] h) f := by
  intro b p hp
  have hl := p.isLt
  by_cases hs : p.val < n
  · refine (concatenate_pair_apply_left (t := M 1 n') (s₁ := M 1 n) (s₂ := M 1 n) (1 : Fin 2) v v h (ix2 0 p) rfl
      (ix2 0 ⟨p.val, hs⟩) fun a => ?_).trans (hv b ⟨p.val, hs⟩ hp)
    match a with
    | ⟨0, _⟩ => rfl
    | ⟨1, _⟩ => rfl
  · refine (concatenate_pair_apply_right (t := M 1 n') (s₁ := M 1 n) (s₂ := M 1 n) (1 : Fin 2) v v h (ix2 0 p) rfl rfl
      (ix2 0 ⟨p.val - n, by omega⟩) (fun a => ?_) ?_).trans (hv b ⟨p.val - n, by omega⟩ (by show (p.val - n) % 1024 = _; omega))
    · match a with
      | ⟨0, _⟩ => exact fun _ => rfl
      | ⟨1, _⟩ => exact fun hne => absurd rfl hne
    · show p.val - n + n = p.val
      omega

/-- The query's row `k`, repeated over all lanes. -/
theorem cyc_row (k : Fin 2) {v : IVec S1x1024 32} (hv : ∀ b : Fin 1024, v (ix2 0 b) = I.x1 (ix2 b k)) :
    Cyc (n := 65536) (k0_pay26 (concatenate S1x2048 1 [⟨S1x1024, v⟩, ⟨S1x1024, v⟩] concatenates_S1x1024_S1x1024_S1x2048_d1))
      fun b => I.x1 (ix2 b k) := by
  have c0 : Cyc (n := 1024) v fun b => I.x1 (ix2 b k) := by
    intro b p hp
    have e : p = b := Fin.ext (by rw [← hp]; exact (Nat.mod_eq_of_lt p.isLt).symm)
    rw [e]; exact hv b
  have c1 := cyc_twice (n := 1024) (n' := 2048) rfl (by decide) c0 concatenates_S1x1024_S1x1024_S1x2048_d1
  have c2 := cyc_twice (n := 2048) (n' := 4096) rfl (by decide) c1 concatenates_S1x2048_S1x2048_S1x4096_d1
  have c3 := cyc_twice (n := 4096) (n' := 8192) rfl (by decide) c2 concatenates_S1x4096_S1x4096_S1x8192_d1
  have c4 := cyc_twice (n := 8192) (n' := 16384) rfl (by decide) c3 concatenates_S1x8192_S1x8192_S1x16384_d1
  have c5 := cyc_twice (n := 16384) (n' := 32768) rfl (by decide) c4 concatenates_S1x16384_S1x16384_S1x32768_d1
  exact cyc_twice (n := 32768) (n' := 65536) rfl (by decide) c5 concatenates_S1x32768_S1x32768_S1x65536_d1

/-- The query beginnings over the lanes. -/
theorem qls_cyc : Cyc (n := 65536) (qls I) fun b => I.x1 (ix2 b 0) := by
  have e : qls I = k0_pay26 (concatenate S1x2048 1
      [⟨S1x1024, extractStridedSlice S1x1024 ![0, 0] (k0_pay22 (View.ld I.x1 r0_4)) slices_S2x1024_o0_0_S1x1024⟩,
        ⟨S1x1024, extractStridedSlice S1x1024 ![0, 0] (k0_pay22 (View.ld I.x1 r0_4)) slices_S2x1024_o0_0_S1x1024⟩]
      concatenates_S1x1024_S1x1024_S1x2048_d1) := rfl
  rw [e]
  refine cyc_row I 0 fun b => ?_
  rw [ld_all I.x1, slice2_axis0_apply 0 _ _ 0 b (0 : Fin 2) rfl]
  exact transpose_ix2_apply _ _ _ _

/-- The query ends over the lanes. -/
theorem qhs_cyc : Cyc (n := 65536) (qhs I) fun b => I.x1 (ix2 b 1) := by
  have e : qhs I = k0_pay26 (concatenate S1x2048 1
      [⟨S1x1024, extractStridedSlice S1x1024 ![1, 0] (k0_pay22 (View.ld I.x1 r0_4)) slices_S2x1024_o1_0_S1x1024⟩,
        ⟨S1x1024, extractStridedSlice S1x1024 ![1, 0] (k0_pay22 (View.ld I.x1 r0_4)) slices_S2x1024_o1_0_S1x1024⟩]
      concatenates_S1x1024_S1x1024_S1x2048_d1) := rfl
  rw [e]
  refine cyc_row I 1 fun b => ?_
  rw [ld_all I.x1, slice2_axis0_apply 1 _ _ 0 b (1 : Fin 2) rfl]
  exact transpose_ix2_apply _ _ _ _

/-- What repeats every 1024 lanes gives every node of a batch row the same word. -/
theorem Cyc.words {n : ℕ} {v : IVec (M 1 n) 32} {f : Fin 1024 → BitVec 32} (h : Cyc v f) (d : ℕ) : Words d v fun b _ => f b :=
  fun s b p _ hp => h b p (by have := b.isLt; omega)

/-- The front of a row repeats what the row repeats. -/
theorem Cyc.front {n : ℕ} (h : Size n) {v : IVec (M 1 65536) 32} {f : Fin 1024 → BitVec 32} (hv : Cyc v f) :
    Cyc (extractStridedSlice (M 1 n) ![0, 0] v (front h)) f := by
  intro b p hp
  have hl := p.isLt
  have hn : n ≤ 65536 := by
    unfold Size at h
    simp only [List.mem_cons, List.not_mem_nil, or_false] at h
    omega
  rw [slice2_axis1_apply 0 v (KernelTree.front h) 0 p ⟨p.val, by omega⟩ (Nat.zero_add _).symm]
  exact hv b _ hp

/-- The part of a table that belongs to depth `d` gives every node its word. -/
theorem table_words {d n off : ℕ} {T : Vec Ideal (M 1 130048) .i32} {l : Fin 130048 → BitVec 32} {f : ℕ → BitVec 32}
    (hn : n = 2 ^ d * 1024) (ho : off = (2 ^ d - 1) * 1024) (hT : ∀ k : Fin 130048, T (ix2 0 k) = l k)
    (hl : ∀ s b (_ : s < 2 ^ d) (_ : b < 1024) (h : (2 ^ d - 1 + s) * 1024 + b < 130048), l ⟨(2 ^ d - 1 + s) * 1024 + b, h⟩ = f (br d s))
    (inb : ∀ a, (![0, off] : Fin 2 → ℕ) a + (M 1 n).size a ≤ (M 1 130048).size a) :
    Words (n := n) d (View.ld (Val := Elt Ideal) (e' := .i32) T (Rect.unit (s := M 1 130048) ![0, off] (M 1 n).size inb)) fun _ => f := by
  intro s b p hs hp
  have hi : off + n ≤ 130048 := inb 1
  have hl' := p.isLt
  have hpos : (2 ^ d - 1 + s) * 1024 + b.val = off + p.val := by rw [ho, hp, add_mul]; omega
  have hk : (2 ^ d - 1 + s) * 1024 + b.val < 130048 := by omega
  have e : View.ld (Val := Elt Ideal) (e' := .i32) T (Rect.unit (s := M 1 130048) ![0, off] (M 1 n).size inb)
      = extractStridedSlice (M 1 n) ![0, off] T ⟨rfl, inb⟩ := View.ld_unit T _ _ inb
  rw [e]
  refine (slice2_axis1_apply off T _ 0 p ⟨(2 ^ d - 1 + s) * 1024 + b.val, hk⟩ hpos).trans ((hT _).trans ?_)
  exact hl s b.val hs b.isLt hk

/-- A level of answers, from the level's words, nodes and combined answers. -/
theorem pick_lanes {d n h : ℕ} (F : Facts n) {W : Fin 2 → Fin 1024 → EReal} {leaf : Fin 1024 → ℕ → Col} {tok : Col}
    {ql qh : Fin 1024 → BitVec 32} {vl vh lo hi : IVec (M 1 n) 32} {e : FVec Ideal (M 32 1) .f32} {t c : FVec Ideal (M 32 n) .f32}
    (hl : Words d vl fun b _ => ql b) (hh : Words d vh fun b _ => qh b) (hlo : Words d lo fun _ => first (h + 1))
    (hhi : Words d hi fun _ => last (h + 1)) (he : ∀ i, e (ix2 i 0) = tok i) (ht : Lanes d t fun b => node W (leaf b) (h + 1))
    (hc : Lanes d c fun b j => rcomb W (reply W (leaf b) tok (ql b) (qh b) h (2 * j)) (reply W (leaf b) tok (ql b) (qh b) h (2 * j + 1))) :
    Lanes d (pick F vl vh lo hi e t c) fun b => reply W (leaf b) tok (ql b) (qh b) (h + 1) := by
  intro s b i p hs hp
  rw [pick_apply, hl s b p hs hp, hh s b p hs hp, hlo s b p hs hp, hhi s b p hs hp, he, ht s b i p hs hp, hc s b i p hs hp]
  rfl

end Cert.KernelTree

end
-- ==== Proof.KernelAnswers.lean ====
/- The kernel's answers, level by level down to the roots, and its output read at an index. -/
module

public import proofs.«01_k».proof.Proof.KernelLanes

@[expose] public section

set_option maxRecDepth 16384

noncomputable section

namespace Cert.KernelTree

open Idealize.ShloMosaic Idealize.ShloMosaic.ValueIdx Cert.Column Cert.Spec Cert.KernelLevel
open Cert.KernelIdeal Cert.KernelIdeal.Gen

variable (I : Ins)

/-- The answer of node `j` of level `h` for batch row `b`. -/
abbrev replyOf (W : Fin 2 → Fin 1024 → EReal) (x : Fin 1024 → ℕ → BitVec 32) (h : ℕ) (b : Fin 1024) : ℕ → Col :=
  reply W (leafOf I x b) (tokOf I) (I.x1 (ix2 b 0)) (I.x1 (ix2 b 1)) h

variable {W : Fin 2 → Fin 1024 → EReal} {x : Fin 1024 → ℕ → BitVec 32}

/-- The first table's part for depth `d`. -/
theorem first_words (G : Fed I W x) {d n off : ℕ} (hd : d ≤ 6) (hn : n = 2 ^ d * 1024) (ho : off = (2 ^ d - 1) * 1024)
    (inb : ∀ a, (![0, off] : Fin 2 → ℕ) a + (M 1 n).size a ≤ (M 1 130048).size a) :
    Words (n := n) d (View.ld (Val := Elt Ideal) (e' := .i32) I.x2 (Rect.unit (s := M 1 130048) ![0, off] (M 1 n).size inb))
      fun _ => first (6 - d) :=
  table_words hn ho G.firsts (fun _ _ hs hb h => Cert.Tables.firstLane_at hd hs hb h) inb

/-- The second table's part for depth `d`. -/
theorem last_words (G : Fed I W x) {d n off : ℕ} (hd : d ≤ 6) (hn : n = 2 ^ d * 1024) (ho : off = (2 ^ d - 1) * 1024)
    (inb : ∀ a, (![0, off] : Fin 2 → ℕ) a + (M 1 n).size a ≤ (M 1 130048).size a) :
    Words (n := n) d (View.ld (Val := Elt Ideal) (e' := .i32) I.x3 (Rect.unit (s := M 1 130048) ![0, off] (M 1 n).size inb))
      fun _ => last (6 - d) :=
  table_words hn ho G.lasts (fun _ _ hs hb h => Cert.Tables.lastLane_at hd hs hb h) inb

/-- The answers at the leaves. -/
theorem whole_lanes (G : Fed I W x) : Lanes 6 (a6 I) (replyOf I W x 0) := by
  intro s b i p hs hp
  unfold a6
  rw [whole_apply, spread_apply, tokc_apply, (qls_cyc I).words 6 s b p hs hp, (qhs_cyc I).words 6 s b p hs hp,
    (first_words I G (d := 6) (n := 65536) (off := 64512) le_rfl rfl rfl inb_S1x130048_S1x65536_0_64512) s b p hs hp,
    (last_words I G (d := 6) (n := 65536) (off := 64512) le_rfl rfl rfl inb_S1x130048_S1x65536_0_64512) s b p hs hp,
    (nodes_lanes I G).1 s b i p hs hp]
  rfl

/-- A level's answers from those of the level below: for the level at depth `d`, `h + 1` above the leaves. -/
theorem step_lanes (G : Fed I W x) {d h n n' off : ℕ} (hs : Size n) (F : Facts n) (hdh : d + (h + 1) = 6) (hn : n = 2 ^ d * 1024)
    (hn' : n' = 2 * n) (ho : off = (2 ^ d - 1) * 1024)
    (inb : ∀ a, (![0, off] : Fin 2 → ℕ) a + (M 1 n).size a ≤ (M 1 130048).size a)
    {t : FVec Ideal (M 32 n) .f32} (ht : Lanes d t fun b => node W (leafOf I x b) (h + 1))
    {X : FVec Ideal (M 32 n') .f32} (hX : Lanes (d + 1) X (replyOf I W x h)) :
    Lanes d (pick F (qlat I hs) (qhat I hs)
      (View.ld (Val := Elt Ideal) (e' := .i32) I.x2 (Rect.unit (s := M 1 130048) ![0, off] (M 1 n).size inb))
      (View.ld (Val := Elt Ideal) (e' := .i32) I.x3 (Rect.unit (s := M 1 130048) ![0, off] (M 1 n).size inb))
      (tokc I) t (up hs hn' (diff I) X)) (replyOf I W x (h + 1)) := by
  have e : 6 - d = h + 1 := by omega
  have f := first_words I G (d := d) (by omega) hn ho inb
  have l := last_words I G (d := d) (by omega) hn ho inb
  rw [e] at f l
  exact pick_lanes F (((qls_cyc I).front hs).words d) (((qhs_cyc I).front hs).words d) f l (fun i => tokc_apply I i 0) ht
    (up_lanes hs hn' hn W _ (fun i j => (congrFun (diff_eq I) (ix2 i j)).trans (G.rules i j)) G.realW
      (fun b j i => isReal_reply W (isReal_leafOf I x b) G.realTok _ _ h j i) hX)

/-- The answers of the roots. -/
theorem roots (G : Fed I W x) : Lanes 0 (a0 I) (replyOf I W x 6) := by
  obtain ⟨_, t5, t4, t3, t2, t1, t0⟩ := nodes_lanes I G
  have l6 := whole_lanes I G
  have l5 : Lanes 5 (a5 I) (replyOf I W x 1) := by
    rw [a5_eq]
    exact step_lanes I G _ _ rfl rfl rfl rfl inb_S1x130048_S1x32768_0_31744 t5 l6
  have l4 : Lanes 4 (a4 I) (replyOf I W x 2) := by
    rw [a4_eq]
    exact step_lanes I G _ _ rfl rfl rfl rfl inb_S1x130048_S1x16384_0_15360 t4 l5
  have l3 : Lanes 3 (a3 I) (replyOf I W x 3) := by
    rw [a3_eq]
    exact step_lanes I G _ _ rfl rfl rfl rfl inb_S1x130048_S1x8192_0_7168 t3 l4
  have l2 : Lanes 2 (a2 I) (replyOf I W x 4) := by
    rw [a2_eq]
    exact step_lanes I G _ _ rfl rfl rfl rfl inb_S1x130048_S1x4096_0_3072 t2 l3
  have l1 : Lanes 1 (a1 I) (replyOf I W x 5) := by
    rw [a1_eq]
    exact step_lanes I G _ _ rfl rfl rfl rfl inb_S1x130048_S1x2048_0_1024 t1 l2
  unfold a0
  exact step_lanes I G _ _ rfl rfl rfl rfl inb_S1x130048_S1x1024_0_0 t0 l1

/-- The kernel's output read at an index. -/
theorem out_apply (G : Fed I W x) (o : Fin 10) (b : Fin 1024) :
    out0_7 I.x0 I.x1 I.x2 I.x3 I.x4 I.x5 I.x6 (ix2 o b) = ∑ k : Fin 32, I.x6 (ix2 o k) * replyOf I W x 6 b 0 k := by
  have e : out0_7 I.x0 I.x1 I.x2 I.x3 I.x4 I.x5 I.x6
      = matmul (φ₁ := .f32) (DotDims.plain 10 32 1024) (some .fp32) (View.ld I.x6 r0_2) (a0 I)
        (constant S10x1024 .f32 0x00000000#32) :=
    (out_eq I).trans (View.canon_unit_zero (funext fun a => by match a with | ⟨0, _⟩ => rfl | ⟨1, _⟩ => rfl) _ _)
  rw [e, ld_all I.x6]
  refine (Ideal.matmul_plain_apply _ _ _ _ o b).trans ?_
  have hz : (constant (F := Ideal) S10x1024 .f32 0x00000000#32 (ix2 o b) : EReal) = 0 := Ideal.ofBits_zero_f32
  rw [hz, zero_add]
  refine Finset.sum_congr rfl fun k _ => ?_
  rw [roots I G 0 b k b (by decide) (by omega)]
  rfl

end Cert.KernelTree

end
-- ==== Proof.KernelRun.lean ====
/- The kernel's run: what the host operations hand the region, what the region leaves, and the result read at an
   index. -/
module

public import proofs.«01_k».proof.Proof.KernelAnswers
public import Idealize.ShloMosaic.Lib.Routing.Ops

@[expose] public section

set_option maxRecDepth 16384

noncomputable section

namespace Cert.KernelRun

open Idealize.ShloMosaic Idealize.ShloMosaic.TcCoe Idealize.ShloMosaic.ValueIdx Idealize.SL.Sem Cert.Column Cert.Spec
open Cert.KernelIdeal Cert.KernelIdeal.Gen

variable (m : (ℓ : Loc nD τ sig) → Buf (Elt Ideal) ℓ) (ρ : Dev nD → PrngReg) (c : Dev nD)

/-- The ids. -/
abbrev ids : IVec S1024x64 32 := m ((c.tc : Thread nD τ).loc main_arg0)
/-- The queries. -/
abbrev queries : IVec S1024x2 32 := m ((c.tc : Thread nD τ).loc main_arg2)
/-- The embedding. -/
abbrev emb : FVec Ideal S11x32 .f32 := m ((c.tc : Thread nD τ).loc main_arg3)
/-- The output layer. -/
abbrev outw : FVec Ideal S10x32 .f32 := m ((c.tc : Thread nD τ).loc main_arg4)
/-- The rules. -/
abbrev rule : FVec Ideal S2x1024 .f32 := m ((c.tc : Thread nD τ).loc main_arg5)

/-- The numbers of the ids' rows in the order of the kernel's lanes. -/
def order : IVec S64 32 := fun i => lit0 (S64.rowMajor i)

/-- The same with a negative number counted from the end. -/
def wrapped : IVec S64 32 :=
  select (cmpi .slt order (broadcastInDim S64 ![] bcast_S_S64 (constantI S_ 32 0#32)))
    (addi order (broadcastInDim S64 ![] bcast_S_S64 (constantI S_ 32 64#32))) order

/-- The region finds the ids transposed, in the order of the kernel's lanes, as one row. -/
theorem V_ids : V m c main_v8 = shapeCast S1x65536
    (Host.gather gather_S64x1024_S64x1_S64x1024_1_0_n_n_0_1_11024 (transpose S64x1024 [1, 0] (ids m c) transposes_S1024x64_S64x1024_1_0)
      (broadcastInDim S64x1 ![0] bcast_S64_S64x1_0 wrapped)) shapeCasts_S64x1024_S1x65536 := by
  unfold V V0 wrapped order
  after_results
  rfl

/-- A row of one word a node, each word at the 1024 lanes of its node. -/
def lanesOf (T : IVec S1x127 32) : IVec S1x130048 32 :=
  shapeCast S1x130048 (broadcastInDim S1x127x1024 ![0, 1] bcast_S1x127_S1x127x1024_0_1 T) shapeCasts_S1x127x1024_S1x130048

/-- Such a row read at a lane: the word of the lane's node. -/
theorem lanesOf_apply (T : IVec S1x127 32) (k : Fin 130048) :
    lanesOf T (ix2 0 k) = T (ix2 0 ⟨k.val / 1024, by omega⟩) := by
  unfold lanesOf
  rw [shapeCast_apply _ _ (ix2 (0 : Fin 1) k) (ix3 (0 : Fin 1) (⟨k.val / 1024, by omega⟩ : Fin 127) (⟨k.val % 1024, by omega⟩ : Fin 1024)) (by
    rw [Shape.rowMajor_val_two, Shape.rowMajor_val_three]
    show (0 * 127 + k.val / 1024) * 1024 + k.val % 1024 = 0 * 130048 + k.val
    omega)]
  refine broadcastInDim_apply _ _ (s := S1x127) _ _ (ix2 (0 : Fin 1) ⟨k.val / 1024, by omega⟩) (fun a => ?_)
  match a with
  | ⟨0, _⟩ => rfl
  | ⟨1, _⟩ => rfl

/-- The region finds the first table. -/
theorem V_first : V m c main_v10 = lanesOf fun i => lit1 (S1x127.rowMajor i) := by
  show StableHlo.after (List.flatten [hostOps0]) (fun b => m (c, b)) (Proc.devRef .tc main_v10) = _
  simp only [List.flatten_cons, List.flatten_nil, List.append_nil, hostOps0]
  after_results
  rfl

/-- The region finds the second table. -/
theorem V_last : V m c main_v12 = lanesOf fun i => lit2 (S1x127.rowMajor i) := by
  show StableHlo.after (List.flatten [hostOps0]) (fun b => m (c, b)) (Proc.devRef .tc main_v12) = _
  simp only [List.flatten_cons, List.flatten_nil, List.append_nil, hostOps0]
  after_results
  rfl

/-- The region finds the difference of the two rules, as a square. -/
theorem V_diff : V m c main_v18 = shapeCast S32x32
    (subf (shapeCast S1024 (extractStridedSlice S1x1024 ![0, 0] (rule m c) slices_S2x1024_S1x1024_0_0) shapeCasts_S1x1024_S1024)
      (shapeCast S1024 (extractStridedSlice S1x1024 ![1, 0] (rule m c) slices_S2x1024_S1x1024_1_0) shapeCasts_S1x1024_S1024))
    shapeCasts_S1024_S32x32 := by
  show StableHlo.after (List.flatten [hostOps0]) (fun b => m (c, b)) (Proc.devRef .tc main_v18) = _
  simp only [List.flatten_cons, List.flatten_nil, List.append_nil, hostOps0]
  after_results
  rfl

/-- The lane order read at a block: the node that the block holds at the leaves. -/
theorem wrapped_apply (s : Fin 64) : wrapped (ix1 s) = BitVec.ofNat 32 (br 6 s.val) := by
  have e : ∀ s : Fin 64, Scalar.select (IntOp.cmpi .slt (BitVec.ofNat 32 (br 6 s.val)) 0#32)
      (IntOp.addi (BitVec.ofNat 32 (br 6 s.val)) 64#32) (BitVec.ofNat 32 (br 6 s.val)) = BitVec.ofNat 32 (br 6 s.val) := by decide
  have ho : order (ix1 s) = BitVec.ofNat 32 (br 6 s.val) := by
    rw [← Cert.Tables.lit0_at]
    exact congrArg lit0 (Fin.ext (Shape.rowMajor_val_one _))
  refine Eq.trans ?_ (e s)
  rw [← ho]
  rfl

/-- The ids that the region finds, read at a lane. -/
theorem V_ids_apply (s : Fin 64) (b : Fin 1024) (p : Fin 65536) (hp : p.val = s.val * 1024 + b.val) :
    (V m c main_v8 : IVec S1x65536 32) (ix2 0 p) = ids m c (ix2 b ⟨br 6 s.val, br_lt s.isLt⟩) := by
  rw [V_ids]
  rw [shapeCast_apply _ _ (ix2 (0 : Fin 1) p) (ix2 s b) (by
    rw [Shape.rowMajor_val_two, Shape.rowMajor_val_two]
    show s.val * 1024 + b.val = 0 * 65536 + p.val
    omega)]
  refine (Routing.gather_row gather_S64x1024_S64x1_S64x1024_1_0_n_n_0_1_11024 rfl rfl rfl rfl rfl _ _ s b ⟨br 6 s.val, br_lt s.isLt⟩ ?_
    (by decide)).trans ?_
  · refine (broadcastInDim_apply _ _ (s := S64) _ (ix2 s (0 : Fin 1)) (ix1 s) (fun a => ?_)).trans (wrapped_apply s)
    match a with
    | ⟨0, _⟩ => rfl
  · exact transpose_ix2_apply _ _ _ _

/-- The difference that the region finds, read at an index. -/
theorem V_diff_apply (i j : Fin 32) : (V m c main_v18 : FVec Ideal S32x32 .f32) (ix2 i j)
    = rule m c (ix2 0 ⟨i.val * 32 + j.val, by omega⟩) - rule m c (ix2 1 ⟨i.val * 32 + j.val, by omega⟩) := by
  have hk : i.val * 32 + j.val < 1024 := by omega
  rw [V_diff]
  rw [shapeCast_apply _ _ (ix2 i j) (ix1 ⟨i.val * 32 + j.val, hk⟩) (by
    rw [Shape.rowMajor_val_two, Shape.rowMajor_val_one]; rfl)]
  rw [subf_apply, shapeCast_1a_a_apply, shapeCast_1a_a_apply, slice2_axis0_apply 0 _ _ 0 _ (0 : Fin 2) rfl,
    slice2_axis0_apply 1 _ _ 0 _ (1 : Fin 2) rfl]

/-- What the region finds in the kernel's seven inputs. -/
def ins : KernelTree.Ins where
  x0 := V m c main_v8
  x1 := V m c main_arg2
  x2 := V m c main_v10
  x3 := V m c main_v12
  x4 := V m c main_arg3
  x5 := V m c main_v18
  x6 := V m c main_arg4

/-- The ids of batch row `b` by leaf. -/
def idAt (b : Fin 1024) (j : ℕ) : BitVec 32 := ids m c (ix2 b ⟨j % 64, Nat.mod_lt _ (by decide)⟩)

/-- The rules by row. -/
abbrev weight (r : Fin 2) (k : Fin 1024) : EReal := rule m c (ix2 r k)

/-- The kernel's inputs hold what its levels are read from. -/
theorem fed (hx : ∀ b j, (ids m c (ix2 b j)).toNat < 11) (hW : ∀ r k, IsReal (rule m c (ix2 r k)))
    (ht : ∀ i : Fin 32, IsReal (emb m c (ix2 10 i))) : KernelTree.Fed (ins m c) (weight m c) (idAt m c) where
  ids := by
    intro s b p hs hp
    refine (V_ids_apply m c ⟨s, hs⟩ b p hp).trans ?_
    unfold idAt
    exact congrArg (fun k => ids m c (ix2 b k)) (Fin.ext (Nat.mod_eq_of_lt (br_lt hs)).symm)
  firsts := fun k => (congrFun (V_first m c) _).trans ((lanesOf_apply _ k).trans (congrArg lit1 (Fin.ext (by
    rw [Shape.rowMajor_val_two]; show 0 * 127 + k.val / 1024 = k.val / 1024; omega))))
  lasts := fun k => (congrFun (V_last m c) _).trans ((lanesOf_apply _ k).trans (congrArg lit2 (Fin.ext (by
    rw [Shape.rowMajor_val_two]; show 0 * 127 + k.val / 1024 = k.val / 1024; omega))))
  rules := V_diff_apply m c
  small := fun b j => hx b _
  realW := hW
  realTok := fun i => by
    have e : (ins m c).x4 = emb m c := V_main_arg3 m c
    rw [e]; exact ht i

/-- Every window's block at the one grid point begins at its array's beginning. -/
theorem start_zero (w : Fin cfg0.W) (t : Fin cfg0.N) (a : Fin (cfg0.win w).shape.rank) : (cfg0.win w).index t a = 0 := by
  revert w t a; decide

/-- So an index of a window's block is the same index of its array. -/
theorem place (w : Fin cfg0.W) (t : Fin cfg0.N) (j : ((cfg0.win w).xblock (cfg0.grid.coords t)).Idx) (a : Fin (cfg0.win w).shape.rank) :
    (((cfg0.win w).rect t).emb j a : ℕ) = j a :=
  Pipeline.Window.rect_emb_val_of_index_zero _ _ _ (start_zero w t a) j

set_option maxHeartbeats 2000000 in
/-- What the body leaves at the one grid point, of the arrays that the region finds. -/
theorem left_eq (t : Fin cfg0.N) : (dats m 0 c).after 7 t
    = out0_7 (ins m c).x0 (ins m c).x1 (ins m c).x2 (ins m c).x3 (ins m c).x4 (ins m c).x5 (ins m c).x6 := by
  rw [after0_7]
  have e0 : iblk m c 0 t = V m c main_v8 := funext fun j => congrArg (V m c main_v8) (funext fun a => Fin.ext (place 0 t j a))
  have e1 : iblk m c 1 t = V m c main_arg2 := funext fun j => congrArg (V m c main_arg2) (funext fun a => Fin.ext (place 1 t j a))
  have e2 : iblk m c 2 t = V m c main_v10 := funext fun j => congrArg (V m c main_v10) (funext fun a => Fin.ext (place 2 t j a))
  have e3 : iblk m c 3 t = V m c main_v12 := funext fun j => congrArg (V m c main_v12) (funext fun a => Fin.ext (place 3 t j a))
  have e4 : iblk m c 4 t = V m c main_arg3 := funext fun j => congrArg (V m c main_arg3) (funext fun a => Fin.ext (place 4 t j a))
  have e5 : iblk m c 5 t = V m c main_v18 := funext fun j => congrArg (V m c main_v18) (funext fun a => Fin.ext (place 5 t j a))
  have e6 : iblk m c 6 t = V m c main_arg4 := funext fun j => congrArg (V m c main_arg4) (funext fun a => Fin.ext (place 6 t j a))
  exact congr (congr (congr (congr (congr (congr (congrArg out0_7 e0) e1) e2) e3) e4) e5) e6

/-- The region's output array. -/
def out : FVec Ideal S10x1024 .f32 :=
  out0_7 (ins m c).x0 (ins m c).x1 (ins m c).x2 (ins m c).x3 (ins m c).x4 (ins m c).x5 (ins m c).x6

/-- Every index of the output array is in the one point's block. -/
theorem covered (i : S10x1024.Idx) : ∃ t : Fin cfg0.N, (cfg0.win 7).flush t = true ∧ i ∈ ((cfg0.win 7).blk t).view.set := by
  refine ⟨t0_0, by decide +kernel, ?_⟩
  have h := ((cfg0.win 7).blk t0_0).view.emb_mem_set i
  have e : ((cfg0.win 7).blk t0_0).view.emb i = i := funext fun a => Fin.ext (place 7 t0_0 i a)
  rwa [e] at h

/-- The output array ends at what the body leaves. -/
theorem final : (dats m 0 c).arrAt 7 cfg0.N = out m c := by
  refine (dats m 0 c).arrAt_eq_of_cover 7 (out m c) (fun t _ => ?_) covered
  show (cfg0.win 7).cut (grid0.coords t) ((dats m 0 c).after 7 t) = _
  rw [left_eq]
  show (cfg0.win 7).cut (grid0.coords t) (out m c) = _
  generalize out m c = G
  exact funext fun j => (congrArg G (funext fun a => Fin.ext (place 7 t j a))).symm

/-- The kernel's result: the output array transposed. -/
def result : FVec Ideal S1024x10 .f32 := transpose S1024x10 [1, 0] (out m c) transposes_S10x1024_S1024x10_1_0

/-- The lines after the region leave the result. -/
theorem tail_result : Pipeline.afterTail₀ cfgs (dats m) 0 (V0 m) [hostOps1] c main_v20 = result m c := by
  unfold Pipeline.afterTail₀ result
  rw [← final]
  simp only [List.flatten_cons, List.flatten_nil, List.append_nil, hostOps1]
  after_results
  exact congrArg (fun X => transpose S1024x10 [1, 0] X transposes_S10x1024_S1024x10_1_0)
    (Pipeline.withArrays_arr spec0 winFacts0.arr_inj c (V0 m c) _ 7)

/-- The result read at an index: the answers of the root times the output layer. -/
theorem result_apply (hx : ∀ b j, (ids m c (ix2 b j)).toNat < 11) (hW : ∀ r k, IsReal (rule m c (ix2 r k)))
    (ht : ∀ i : Fin 32, IsReal (emb m c (ix2 10 i))) (b : Fin 1024) (o : Fin 10) :
    result m c (ix2 b o) = ∑ i : Fin 32, reply (weight m c) (fun j => leafCol (fun r i => emb m c (ix2 r i)) (idAt m c b j))
        (fun i => emb m c (ix2 10 i)) (queries m c (ix2 b 0)) (queries m c (ix2 b 1)) 6 0 i * outw m c (ix2 o i) := by
  unfold result out
  refine (transpose_ix2_apply _ _ b o).trans ((KernelTree.out_apply (ins m c) (fed m c hx hW ht) o b).trans ?_)
  have e1 : (ins m c).x1 = queries m c := V_main_arg2 m c
  have e4 : (ins m c).x4 = emb m c := V_main_arg3 m c
  have e6 : (ins m c).x6 = outw m c := V_main_arg4 m c
  unfold KernelTree.replyOf KernelTree.leafOf KernelTree.tokOf
  rw [e1, e4, e6]
  exact Finset.sum_congr rfl fun k _ => mul_comm _ _

/-- Every run of the kernel leaves `result` in its result and its arguments as they were. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono ?_ (θ_run_and (run_main m ρ) (unchanged m ρ))
  rintro r ⟨h, u⟩ c
  exact ⟨((h c).2 main_v20 (by decide)).trans (tail_result m c), u c⟩

end Cert.KernelRun

end
-- ==== Proof.RefLevel.lean ====
/- The reference's way of combining the nodes of one level of the tree, for any number of nodes in the
   level, as the operations on arrays it prints; and those arrays read at an index: every node holds the
   column that `Cert.Column.rcomb` makes of its two children. -/
module

public import proofs.«01_k».proof.Proof.Column
public import Idealize.ShloMosaic.Lib.Pipeline.Value
public import Idealize.ShloMosaic.Lib.ValueLayout

@[expose] public section

set_option maxRecDepth 16384

noncomputable section

namespace Cert.RefLevel

open Idealize.ShloMosaic Idealize.ShloMosaic.ValueIdx Cert.Column

/-- The batch of `m` nodes with `k` numbers each. -/
abbrev T (m k : ℕ) : Shape := ⟨3, ![1024, m, k]⟩
/-- The batch of `m` nodes. -/
abbrev B (m : ℕ) : Shape := ⟨2, ![1024, m]⟩
/-- The shape of a scalar. -/
abbrev Sc : Shape := ⟨0, ![]⟩

/-- What the printed operations of a level of `m` nodes need of their shapes. -/
structure Facts (m : ℕ) : Prop where
  colA : (⟨4, ![1024, m, 32, 1]⟩ : Shape).BroadcastsInDim ⟨4, ![1024, m, 32, 32]⟩ ![0, 1, 2, 3]
  colB : (⟨4, ![1024, m, 1, 32]⟩ : Shape).BroadcastsInDim ⟨4, ![1024, m, 32, 32]⟩ ![0, 1, 2, 3]
  upA : (T m 32).BroadcastsInDim ⟨4, ![1024, m, 32, 1]⟩ ![0, 1, 2]
  upB : (T m 32).BroadcastsInDim ⟨4, ![1024, m, 1, 32]⟩ ![0, 1, 3]
  flat : (⟨4, ![1024, m, 32, 32]⟩ : Shape).ShapeCasts (T m 1024)
  turn : (⟨2, ![2, 1024]⟩ : Shape).Transposes [1, 0] ⟨2, ![1024, 2]⟩
  dot : DotDims.WF (T m 1024) ⟨2, ![1024, 2]⟩ (T m 2) [2] [0] [0, 1] [1] [] []
  keep : (B m).BroadcastsInDim (T m 1) ![0, 1]
  wide2 : (T m 1).BroadcastsInDim (T m 2) ![0, 1, 2]
  wide32 : (T m 1).BroadcastsInDim (T m 32) ![0, 1, 2]
  all2 : Sc.BroadcastsInDim (B m) ![]
  all3 : Sc.BroadcastsInDim (T m 1) ![]
  red2 : (T m 2).ReducesTo [2] (B m)
  red32 : (T m 32).ReducesTo [2] (B m)
  red2' : (T m 2).Reduces [2] (B m)
  red32' : (T m 32).Reduces [2] (B m)
  pos : 0 < Sc.numel
  first : (T m 2).Slices ![0, 0, 0] (T m 1)
  second : (T m 2).Slices ![0, 0, 1] (T m 1)

variable {m : ℕ} (F : Facts m)

/-- The two scores of every node. -/
def score (W : FVec Ideal ⟨2, ![2, 1024]⟩ .f32) (L R : FVec Ideal (T m 32) .f32) : FVec Ideal (T m 2) .f32 :=
  Host.dotGeneral (⟨[2], [0], [0, 1], [1], [], [], F.dot⟩ : DotDims (T m 1024) ⟨2, ![1024, 2]⟩ (T m 2)) none
    (shapeCast _ (mulf
      (broadcastInDim ⟨4, ![1024, m, 32, 32]⟩ ![0, 1, 2, 3] F.colA (broadcastInDim ⟨4, ![1024, m, 32, 1]⟩ ![0, 1, 2] F.upA L))
      (broadcastInDim ⟨4, ![1024, m, 32, 32]⟩ ![0, 1, 2, 3] F.colB (broadcastInDim ⟨4, ![1024, m, 1, 32]⟩ ![0, 1, 3] F.upB R))) F.flat)
    (transpose ⟨2, ![1024, 2]⟩ [1, 0] W F.turn)

/-- The exponentials of the scores less their maximum. -/
def expo (s : FVec Ideal (T m 2) .f32) : FVec Ideal (T m 2) .f32 :=
  Host.exp (subf s (broadcastInDim (T m 2) ![0, 1, 2] F.wide2 (broadcastInDim (T m 1) ![0, 1] F.keep
    (maximumf (broadcastInDim (B m) ![] F.all2 (constant Sc .f32 0xFF800000#32))
      (Host.reduce FloatOps.maximumf s (constant Sc .f32 0xFF800000#32) F.red2 F.pos)))))

/-- The exponentials over their sum. -/
def share (e : FVec Ideal (T m 2) .f32) : FVec Ideal (T m 2) .f32 :=
  Host.divf e (broadcastInDim (T m 2) ![0, 1, 2] F.wide2 (broadcastInDim (T m 1) ![0, 1] F.keep
    (Host.reduceAdd e (constant Sc .f32 0x00000000#32) F.red2 F.pos)))

/-- The children weighted by the two shares. -/
def mix (p : FVec Ideal (T m 2) .f32) (L R : FVec Ideal (T m 32) .f32) : FVec Ideal (T m 32) .f32 :=
  addf (mulf (broadcastInDim (T m 32) ![0, 1, 2] F.wide32 (extractStridedSlice (T m 1) ![0, 0, 0] p F.first)) L)
    (mulf (broadcastInDim (T m 32) ![0, 1, 2] F.wide32 (extractStridedSlice (T m 1) ![0, 0, 1] p F.second)) R)

/-- The nodes divided by the root of their mean square. -/
def norm (v : FVec Ideal (T m 32) .f32) : FVec Ideal (T m 32) .f32 :=
  Host.divf v (broadcastInDim (T m 32) ![0, 1, 2] F.wide32
    (addf (Host.sqrt (addf (Host.divf
        (broadcastInDim (T m 1) ![0, 1] F.keep (Host.reduceAdd (mulf v v) (constant Sc .f32 0x00000000#32) F.red32 F.pos))
        (broadcastInDim (T m 1) ![] F.all3 (constant Sc .f32 0x42000000#32)))
      (broadcastInDim (T m 1) ![] F.all3 (constant Sc .f32 0x358637BD#32))))
    (broadcastInDim (T m 1) ![] F.all3 (constant Sc .f32 0x358637BD#32))))

/-- One level: the parents of the nodes `L` and `R`. -/
def comb (W : FVec Ideal ⟨2, ![2, 1024]⟩ .f32) (L R : FVec Ideal (T m 32) .f32) : FVec Ideal (T m 32) .f32 :=
  norm F (mix F (share F (expo F (score F W L R))) L R)

/-- A number per node, spread over the node's `k` places, read at an index. -/
theorem wide_apply {k : ℕ} {α : Type} (h : (T m 1).BroadcastsInDim (T m k) ![0, 1, 2]) (v : (T m 1).Idx → α)
    (b : Fin 1024) (j : Fin m) (i : Fin k) :
    broadcastInDim (T m k) ![0, 1, 2] h v (ix3 b j i) = v (ix3 b j (0 : Fin 1)) := by
  refine broadcastInDim_apply _ h v _ _ fun a => ?_
  match a with
  | ⟨0, _⟩ => rfl
  | ⟨1, _⟩ => show j.val = if m = 1 then 0 else j.val; have := j.isLt; split <;> omega
  | ⟨2, _⟩ => rfl

/-- An array of one number per node with a unit axis added, read at an index. -/
theorem keep_apply {α : Type} (h : (B m).BroadcastsInDim (T m 1) ![0, 1]) (v : (B m).Idx → α) (b : Fin 1024) (j : Fin m) :
    broadcastInDim (T m 1) ![0, 1] h v (ix3 b j (0 : Fin 1)) = v (ix2 b j) := by
  refine broadcastInDim_apply _ h v _ _ fun a => ?_
  match a with
  | ⟨0, _⟩ => rfl
  | ⟨1, _⟩ => show j.val = if m = 1 then 0 else j.val; have := j.isLt; split <;> omega

/-- A scalar spread over an array, read at an index. -/
theorem all_apply {α : Type} {s : Shape} (h : Sc.BroadcastsInDim s (![] : Fin 0 → Fin s.rank)) (v : Sc.Idx → α) (j : s.Idx) :
    broadcastInDim s ![] h v j = v ix0 := by
  unfold broadcastInDim
  exact congrArg v (funext fun a => a.elim0)

/-- Inserting the last coordinate. -/
theorem lift_last {k : ℕ} (h : (T m k).Reduces [2] (B m)) (b : Fin 1024) (j : Fin m) (c : Fin k) :
    h.lift (ix2 b j) c = ix3 b j c := by
  funext a; apply Fin.ext
  match a with
  | ⟨0, _⟩ => rfl
  | ⟨1, _⟩ => rfl
  | ⟨2, _⟩ => rfl

/-- A sum over the last axis, read at an index. -/
theorem sum_apply {k : ℕ} (h' : (T m k).ReducesTo [2] (B m)) (h : (T m k).Reduces [2] (B m)) (hp : 0 < Sc.numel)
    (x : FVec Ideal (T m k) .f32) (b : Fin 1024) (j : Fin m) :
    Host.reduceAdd x (constant Sc .f32 0x00000000#32) h' hp (ix2 b j) = ∑ c : Fin k, x (ix3 b j c) := by
  rw [hostReduceAdd_apply, Ideal.hostReduceAdd_single h' h]
  rw [show (constant (F := Ideal) Sc .f32 0x00000000#32) (Shape.Idx.first hp) = 0 from Ideal.ofBits_zero_f32, zero_add]
  exact Finset.sum_congr rfl fun c _ => congrArg x (lift_last h b j c)

/-- The word of minus infinity is the least extended real. -/
theorem negInf_eq : Ideal.ofBits .f32 0xFF800000#32 = (⊥ : EReal) := by
  simp [Ideal.ofBits, Ideal.ieee]

/-- A fold of the maximum over two values. -/
theorem fold_two (f : Fin 2 → Ideal .f32) (z : Ideal .f32) :
    (Finset.univ : Finset (Fin 2)).fold FloatOps.maximumf z f = max (f 0 : EReal) (max (f 1 : EReal) z) := by
  rw [show (Finset.univ : Finset (Fin 2)) = {0, 1} from rfl, Finset.fold_insert (by decide), Finset.fold_singleton]
  rfl

/-- The maximum over the last axis of two, read at an index. -/
theorem max_apply (x : FVec Ideal (T m 2) .f32) (b : Fin 1024) (j : Fin m) :
    Host.reduce FloatOps.maximumf x (constant Sc .f32 0xFF800000#32) F.red2 F.pos (ix2 b j)
      = max (x (ix3 b j 0)) (x (ix3 b j 1)) := by
  rw [Host.reduce_eq_fold_single FloatOps.maximumf x _ F.red2 F.red2']
  refine (fold_two _ _).trans ?_
  show max (x (F.red2'.lift (ix2 b j) (0 : Fin 2))) (max (x (F.red2'.lift (ix2 b j) (1 : Fin 2))) ⊥) = _
  rw [lift_last, lift_last, max_bot_right]

/-- The scores read at an index. -/
theorem score_apply (W : FVec Ideal ⟨2, ![2, 1024]⟩ .f32) (L R : FVec Ideal (T m 32) .f32) (b : Fin 1024) (j : Fin m) (r : Fin 2) :
    score F W L R (ix3 b j r) = rscore (fun k => W (ix2 r k)) (fun i => L (ix3 b j i)) (fun i => R (ix3 b j i)) := by
  unfold score rscore
  show FloatOps.dotGeneral _ none _ _ _ (ix3 b j r) = _
  rw [Ideal.dotGeneral_apply, ← Equiv.sum_comp (contrEquiv1 _ 1024 rfl rfl).symm]
  refine Finset.sum_congr rfl fun k _ => ?_
  have hk := contrEquiv1_symm_val (⟨[2], [0], [0, 1], [1], [], [], F.dot⟩ : DotDims (T m 1024) ⟨2, ![1024, 2]⟩ (T m 2)) 1024 rfl rfl k
  have el : (⟨[2], [0], [0, 1], [1], [], [], F.dot⟩ : DotDims (T m 1024) ⟨2, ![1024, 2]⟩ (T m 2)).lhsIdx (ix3 b j r)
      ((contrEquiv1 _ 1024 rfl rfl).symm k) = ix3 b j k := by
    funext a; apply Fin.ext
    match a with
    | ⟨0, _⟩ => rfl
    | ⟨1, _⟩ => rfl
    | ⟨2, _⟩ => exact hk
  have er : (⟨[2], [0], [0, 1], [1], [], [], F.dot⟩ : DotDims (T m 1024) ⟨2, ![1024, 2]⟩ (T m 2)).rhsIdx (ix3 b j r)
      ((contrEquiv1 _ 1024 rfl rfl).symm k) = ix2 k r := by
    funext a; apply Fin.ext
    match a with
    | ⟨0, _⟩ => exact hk
    | ⟨1, _⟩ => rfl
  rw [el, er]
  have hk1 : k.val / 32 < 32 := by have := k.isLt; omega
  have hk2 : k.val % 32 < 32 := Nat.mod_lt _ (by omega)
  congr 1
  · rw [shapeCast_apply _ F.flat (ix3 b j k) (ix4 b j ⟨k.val / 32, hk1⟩ ⟨k.val % 32, hk2⟩) (by
      rw [Shape.rowMajor_val_four, Shape.rowMajor_val_three]
      show ((b.val * m + j.val) * 32 + k.val / 32) * 32 + k.val % 32 = (b.val * m + j.val) * 1024 + k.val
      omega)]
    rw [mulf_apply]
    congr 1
    · refine (broadcastInDim_apply _ F.colA _ _ (ix4 b j ⟨k.val / 32, hk1⟩ (0 : Fin 1)) fun a => ?_).trans
        (broadcastInDim_apply _ F.upA _ _ _ fun a => ?_)
      · match a with
        | ⟨0, _⟩ => rfl
        | ⟨1, _⟩ => show j.val = if m = 1 then 0 else j.val; have := j.isLt; split <;> omega
        | ⟨2, _⟩ => rfl
        | ⟨3, _⟩ => rfl
      · match a with
        | ⟨0, _⟩ => rfl
        | ⟨1, _⟩ => show j.val = if m = 1 then 0 else j.val; have := j.isLt; split <;> omega
        | ⟨2, _⟩ => rfl
    · refine (broadcastInDim_apply _ F.colB _ _ (ix4 b j (0 : Fin 1) ⟨k.val % 32, hk2⟩) fun a => ?_).trans
        (broadcastInDim_apply _ F.upB _ _ _ fun a => ?_)
      · match a with
        | ⟨0, _⟩ => rfl
        | ⟨1, _⟩ => show j.val = if m = 1 then 0 else j.val; have := j.isLt; split <;> omega
        | ⟨2, _⟩ => rfl
        | ⟨3, _⟩ => rfl
      · match a with
        | ⟨0, _⟩ => rfl
        | ⟨1, _⟩ => show j.val = if m = 1 then 0 else j.val; have := j.isLt; split <;> omega
        | ⟨2, _⟩ => rfl
  · exact transpose_ix2_apply W F.turn k r

/-- The exponentials read at an index. -/
theorem expo_apply (s : FVec Ideal (T m 2) .f32) (b : Fin 1024) (j : Fin m) (r : Fin 2) :
    expo F s (ix3 b j r) = rexp (s (ix3 b j r)) (s (ix3 b j 0)) (s (ix3 b j 1)) := by
  unfold expo rexp
  show Ideal.exp (s _ - broadcastInDim _ _ _ _ _) = _
  rw [wide_apply, keep_apply, maximumf_apply, max_apply F, all_apply]
  rw [show (constant (F := Ideal) Sc .f32 0xFF800000#32) ix0 = (⊥ : EReal) from negInf_eq, max_bot_left]

/-- The shares read at an index. -/
theorem share_apply (e : FVec Ideal (T m 2) .f32) (b : Fin 1024) (j : Fin m) (r : Fin 2) :
    share F e (ix3 b j r) = Ideal.div (e (ix3 b j r)) (e (ix3 b j 0) + e (ix3 b j 1)) := by
  unfold share
  rw [hostDivf_apply, wide_apply, keep_apply, sum_apply F.red2 F.red2', Fin.sum_univ_two]

/-- The weighted children read at an index. -/
theorem mix_apply (p : FVec Ideal (T m 2) .f32) (L R : FVec Ideal (T m 32) .f32) (b : Fin 1024) (j : Fin m) (i : Fin 32) :
    mix F p L R (ix3 b j i) = p (ix3 b j 0) * L (ix3 b j i) + p (ix3 b j 1) * R (ix3 b j i) := by
  unfold mix
  rw [addf_apply, mulf_apply, mulf_apply, wide_apply, wide_apply]
  rw [extractStridedSlice_apply _ p F.first (ix3 b j (0 : Fin 1)) (ix3 b j 0) (fun a => by
      match a with
      | ⟨0, _⟩ => exact (Nat.zero_add _).symm
      | ⟨1, _⟩ => exact (Nat.zero_add _).symm
      | ⟨2, _⟩ => rfl),
    extractStridedSlice_apply _ p F.second (ix3 b j (0 : Fin 1)) (ix3 b j 1) (fun a => by
      match a with
      | ⟨0, _⟩ => exact (Nat.zero_add _).symm
      | ⟨1, _⟩ => exact (Nat.zero_add _).symm
      | ⟨2, _⟩ => rfl)]

/-- The host's square root read at an index. -/
theorem hostSqrt_apply {s : Shape} (x : FVec Ideal s .f32) (j : s.Idx) : Host.sqrt x j = Ideal.sqrt (x j) := rfl

/-- The normalised nodes read at an index. -/
theorem norm_apply (v : FVec Ideal (T m 32) .f32) (b : Fin 1024) (j : Fin m) (i : Fin 32) :
    norm F v (ix3 b j i) = rnorm (fun i => v (ix3 b j i)) i := by
  unfold norm rnorm
  rw [hostDivf_apply, wide_apply, addf_apply, all_apply, hostSqrt_apply, addf_apply, hostDivf_apply, keep_apply, sum_apply F.red32 F.red32', all_apply, all_apply]
  rfl

/-- **The parents read at an index**: each is the reference's combination of its two children's columns. -/
theorem comb_apply (W : FVec Ideal ⟨2, ![2, 1024]⟩ .f32) (L R : FVec Ideal (T m 32) .f32) (b : Fin 1024) (j : Fin m) (i : Fin 32) :
    comb F W L R (ix3 b j i)
      = rcomb (fun r k => W (ix2 r k)) (fun i => L (ix3 b j i)) (fun i => R (ix3 b j i)) i := by
  unfold comb rcomb
  rw [norm_apply]
  refine congrArg (fun v => rnorm v i) (funext fun i => ?_)
  rw [mix_apply, share_apply, share_apply, expo_apply, expo_apply, score_apply, score_apply]
  rfl

/-- The one row of `m` numbers. -/
abbrev Q (m : ℕ) : Shape := ⟨2, ![1, m]⟩

/-- What the printed choice at a level of `m` nodes needs of its shapes. -/
structure Ranges (m : ℕ) : Prop where
  row : (⟨1, ![m]⟩ : Shape).BroadcastsInDim (Q m) ![1]
  all : Sc.BroadcastsInDim (Q m) ![]
  cols : (Q m).BroadcastsInDim (B m) ![0, 1]
  rows : (B 1).BroadcastsInDim (B m) ![0, 1]
  tok : (⟨1, ![32]⟩ : Shape).BroadcastsInDim (T m 32) ![2]

/-- The first leaf of every node of a level whose nodes hold `w` leaves. -/
def low (E : Ranges m) (w : BitVec 32) : IVec (Q m) 32 :=
  muli (broadcastInDim (Q m) ![] E.all (constantI Sc 32 w)) (broadcastInDim (Q m) ![1] E.row (iotaInDim ⟨1, ![m]⟩ 32 0))

/-- The last leaf of every node of a level: the first one plus `u`. -/
def high (E : Ranges m) (w u : BitVec 32) : IVec (Q m) 32 :=
  addi (low E w) (broadcastInDim (Q m) ![] E.all (constantI Sc 32 u))

/-- A row of numbers, one per node, spread over the batch. -/
def cols (E : Ranges m) (v : IVec (Q m) 32) : IVec (B m) 32 := broadcastInDim (B m) ![0, 1] E.cols v

/-- A column of numbers, one per batch row, spread over the nodes. -/
def rows (E : Ranges m) (v : IVec (B 1) 32) : IVec (B m) 32 := broadcastInDim (B m) ![0, 1] E.rows v

/-- The nodes of `t` where the query covers the node, those of `c` elsewhere. -/
def whole (ql qh lo hi : IVec (B m) 32) (t c : FVec Ideal (T m 32) .f32) : FVec Ideal (T m 32) .f32 :=
  select (broadcastInDim (T m 32) ![0, 1, 2] F.wide32 (broadcastInDim (T m 1) ![0, 1] F.keep
    (andi (cmpi .sle ql lo) (cmpi .sge qh hi)))) t c

/-- The column of `e` at every node. -/
def token (E : Ranges m) (e : FVec Ideal ⟨1, ![32]⟩ .f32) : FVec Ideal (T m 32) .f32 :=
  broadcastInDim (T m 32) ![2] E.tok e

/-- The nodes of `t` where the query covers the node, those of `e` where it misses it, those of `c` elsewhere. -/
def pick (ql qh lo hi : IVec (B m) 32) (e t c : FVec Ideal (T m 32) .f32) : FVec Ideal (T m 32) .f32 :=
  whole F ql qh lo hi t
    (select (broadcastInDim (T m 32) ![0, 1, 2] F.wide32 (broadcastInDim (T m 1) ![0, 1] F.keep
      (ori (cmpi .sgt ql hi) (cmpi .slt qh lo)))) e c)

/-- The first leaves, spread over the batch, read at an index. -/
theorem low_apply (E : Ranges m) (w : ℕ) (b : Fin 1024) (j : Fin m) :
    cols E (low E (BitVec.ofNat 32 w)) (ix2 b j) = BitVec.ofNat 32 (w * j.val) := by
  unfold cols low
  rw [broadcastInDim_apply _ E.cols _ (ix2 b j) (ix2 (0 : Fin 1) j) (fun a => by
    match a with
    | ⟨0, _⟩ => rfl
    | ⟨1, _⟩ => show j.val = if m = 1 then 0 else j.val; have := j.isLt; split <;> omega)]
  show broadcastInDim (Q m) ![] E.all (constantI Sc 32 (BitVec.ofNat 32 w)) (ix2 (0 : Fin 1) j)
    * broadcastInDim (Q m) ![1] E.row (iotaInDim ⟨1, ![m]⟩ 32 0) (ix2 (0 : Fin 1) j) = _
  rw [broadcastInDim_apply _ E.all _ _ ix0 (fun a => a.elim0), broadcastInDim_apply _ E.row _ (ix2 (0 : Fin 1) j) (ix1 j) (fun a => by
    match a with
    | ⟨0, _⟩ => show j.val = if m = 1 then 0 else j.val; have := j.isLt; split <;> omega)]
  exact (BitVec.ofNat_mul w j.val).symm

/-- The last leaves, spread over the batch, read at an index. -/
theorem high_apply (E : Ranges m) (w u : ℕ) (b : Fin 1024) (j : Fin m) :
    cols E (high E (BitVec.ofNat 32 w) (BitVec.ofNat 32 u)) (ix2 b j) = BitVec.ofNat 32 (w * j.val + u) := by
  have h : cols E (high E (BitVec.ofNat 32 w) (BitVec.ofNat 32 u)) (ix2 b j)
      = cols E (low E (BitVec.ofNat 32 w)) (ix2 b j)
        + cols E (broadcastInDim (Q m) ![] E.all (constantI Sc 32 (BitVec.ofNat 32 u))) (ix2 b j) := rfl
  rw [h, low_apply, BitVec.ofNat_add]
  refine congrArg (BitVec.ofNat 32 (w * j.val) + ·) ?_
  unfold cols
  rw [broadcastInDim_apply _ E.cols _ (ix2 b j) (ix2 (0 : Fin 1) j) (fun a => by
    match a with
    | ⟨0, _⟩ => rfl
    | ⟨1, _⟩ => show j.val = if m = 1 then 0 else j.val; have := j.isLt; split <;> omega)]
  rw [broadcastInDim_apply _ E.all _ _ ix0 (fun a => a.elim0)]
  rfl

/-- A column spread over the nodes, read at an index. -/
theorem rows_apply (E : Ranges m) (v : IVec (B 1) 32) (b : Fin 1024) (j : Fin m) :
    rows E v (ix2 b j) = v (ix2 b (0 : Fin 1)) := by
  unfold rows
  refine broadcastInDim_apply _ E.rows _ _ _ fun a => ?_
  match a with
  | ⟨0, _⟩ => rfl
  | ⟨1, _⟩ => rfl

/-- The token read at an index. -/
theorem token_apply (E : Ranges m) (e : FVec Ideal ⟨1, ![32]⟩ .f32) (b : Fin 1024) (j : Fin m) (i : Fin 32) :
    token E e (ix3 b j i) = e (ix1 i) := by
  unfold token
  refine broadcastInDim_apply _ E.tok _ _ _ fun a => ?_
  match a with
  | ⟨0, _⟩ => rfl

/-- The choice at the leaves read at an index. -/
theorem whole_apply (ql qh lo hi : IVec (B m) 32) (t c : FVec Ideal (T m 32) .f32) (b : Fin 1024) (j : Fin m) (i : Fin 32) :
    whole F ql qh lo hi t c (ix3 b j i)
      = Scalar.select (covers (ql (ix2 b j)) (qh (ix2 b j)) (lo (ix2 b j)) (hi (ix2 b j))) (t (ix3 b j i)) (c (ix3 b j i)) := by
  unfold whole
  rw [select_apply, wide_apply, keep_apply]
  rfl

/-- The choice at a level read at an index. -/
theorem pick_apply (ql qh lo hi : IVec (B m) 32) (e t c : FVec Ideal (T m 32) .f32) (b : Fin 1024) (j : Fin m) (i : Fin 32) :
    pick F ql qh lo hi e t c (ix3 b j i)
      = answer (ql (ix2 b j)) (qh (ix2 b j)) (lo (ix2 b j)) (hi (ix2 b j)) (t (ix3 b j i)) (e (ix3 b j i)) (c (ix3 b j i)) := by
  unfold pick
  rw [whole_apply, select_apply, wide_apply, keep_apply]
  rfl

/-- Every second node of a level, from node `o`. -/
def half {n : ℕ} (o : ℕ) (H : (T n 32).SlicesBy ![0, o, 0] ![1, 2, 1] (T m 32)) (X : FVec Ideal (T n 32) .f32) :
    FVec Ideal (T m 32) .f32 :=
  Host.slice (T m 32) ![0, o, 0] ![1, 2, 1] X H

/-- Every second node read at an index. -/
theorem half_apply {n : ℕ} (o : ℕ) (H : (T n 32).SlicesBy ![0, o, 0] ![1, 2, 1] (T m 32)) (X : FVec Ideal (T n 32) .f32)
    (b : Fin 1024) (j : Fin m) (i : Fin 32) (k : Fin n) (hk : k.val = 2 * j.val + o) :
    half o H X (ix3 b j i) = X (ix3 b k i) := by
  unfold half
  unfold Host.slice
  refine congrArg X (funext fun a => Fin.ext ?_)
  match a with
  | ⟨0, _⟩ => show 0 + 1 * b.val = b.val; omega
  | ⟨1, _⟩ => show o + 2 * j.val = k.val; omega
  | ⟨2, _⟩ => show 0 + 1 * i.val = i.val; omega

end Cert.RefLevel

end
-- ==== Proof.RefTree.lean ====
/- The reference's levels hold the nodes, and the answers, of `Cert.Spec`. -/
module

public import proofs.«01_k».proof.Proof.Spec
public import proofs.«01_k».proof.Proof.RefLevel
public import proofs.«01_k».proof.Proof.Gen.ReferenceIdeal.Run
public import Idealize.ShloMosaic.Lib.StackMember

@[expose] public section

set_option maxRecDepth 16384

noncomputable section

namespace Cert.RefTree

open Idealize.ShloMosaic Idealize.ShloMosaic.ValueIdx Cert.Column Cert.Spec Cert.RefLevel
open Cert.ReferenceIdeal Cert.ReferenceIdeal.Gen Cert.ReferenceIdeal.Value Idealize.ShloMosaic.TcCoe Idealize.SL.Sem
  Idealize.ShloMosaic.StableHlo

/-- The level sizes of the tree. -/
def Size (m : ℕ) : Prop := m = 1 ∨ m = 2 ∨ m = 4 ∨ m = 8 ∨ m = 16 ∨ m = 32 ∨ m = 64

/-- The printed shapes fit together at every level. -/
theorem facts {m : ℕ} (h : Size m) : Facts m := by
  rcases h with rfl | rfl | rfl | rfl | rfl | rfl | rfl <;> constructor <;> decide

/-- The shapes of the printed choice fit together at every level. -/
theorem ranges {m : ℕ} (h : Size m) : Ranges m := by
  rcases h with rfl | rfl | rfl | rfl | rfl | rfl | rfl <;> constructor <;> decide

/-- The nodes at the even places of a level. -/
theorem evens {m n : ℕ} (h : Size m) (hn : n = 2 * m) : (T n 32).SlicesBy ![0, 0, 0] ![1, 2, 1] (T m 32) := by
  subst hn; rcases h with rfl | rfl | rfl | rfl | rfl | rfl | rfl <;> decide

/-- The nodes at the odd places of a level. -/
theorem odds {m n : ℕ} (h : Size m) (hn : n = 2 * m) : (T n 32).SlicesBy ![0, 1, 0] ![1, 2, 1] (T m 32) := by
  subst hn; rcases h with rfl | rfl | rfl | rfl | rfl | rfl | rfl <;> decide

/-- The level `X` holds, for every batch row and node, the column `c` gives it. -/
def Holds {m : ℕ} (X : FVec Ideal (T m 32) .f32) (c : Fin 1024 → ℕ → Col) : Prop :=
  ∀ (b : Fin 1024) (j : Fin m) (i : Fin 32), X (ix3 b j i) = c b j.val i

/-- The parents of a level. -/
def up {m n : ℕ} (h : Size m) (hn : n = 2 * m) (W : FVec Ideal ⟨2, ![2, 1024]⟩ .f32) (X : FVec Ideal (T n 32) .f32) :
    FVec Ideal (T m 32) .f32 :=
  comb (facts h) W (half 0 (evens h hn) X) (half 1 (odds h hn) X)

/-- The parents of a level hold what `rcomb` makes of the columns of the level. -/
theorem up_holds {m n : ℕ} (h : Size m) (hn : n = 2 * m) (W : FVec Ideal ⟨2, ![2, 1024]⟩ .f32)
    {X : FVec Ideal (T n 32) .f32} {c : Fin 1024 → ℕ → Col} (hX : Holds X c) :
    Holds (up h hn W X) fun b j => rcomb (fun r k => W (ix2 r k)) (c b (2 * j)) (c b (2 * j + 1)) := by
  intro b j i
  have hj := j.isLt
  unfold up
  rw [comb_apply]
  refine congrFun (congrArg₂ (rcomb fun r k => W (ix2 r k)) (funext fun i' => ?_) (funext fun i' => ?_)) i
  · rw [half_apply 0 _ X b j i' ⟨2 * j.val, by omega⟩ rfl]; exact hX b _ i'
  · rw [half_apply 1 _ X b j i' ⟨2 * j.val + 1, by omega⟩ rfl]; exact hX b _ i'

variable (V0 : Valuation τ sig (Elt Ideal))

/-- The ids of the batch. -/
abbrev ids : IVec ⟨2, ![1024, 64]⟩ 32 := V0 (Proc.devRef .tc main_arg0)
/-- The embedding. -/
abbrev emb : FVec Ideal ⟨2, ![11, 32]⟩ .f32 := V0 (Proc.devRef .tc main_arg3)
/-- The rule's two rows of weights. -/
abbrev rule : FVec Ideal ⟨2, ![2, 1024]⟩ .f32 := V0 (Proc.devRef .tc main_arg5)
/-- The rule's weight at row `r` and place `k`. -/
def weight (r : Fin 2) (k : Fin 1024) : EReal := rule V0 (ix2 r k)

/-- The levels of the tree hold its nodes, where the leaves' level holds the leaves. -/
theorem tree {leaf : Fin 1024 → ℕ → Col} (h0 : Holds (m := 64) (res_main_v12 V0) leaf) :
    (Holds (m := 32) (res_main_v54 V0) fun b => node (weight V0) (leaf b) 1)
    ∧ (Holds (m := 16) (res_main_v94 V0) fun b => node (weight V0) (leaf b) 2)
    ∧ (Holds (m := 8) (res_main_v134 V0) fun b => node (weight V0) (leaf b) 3)
    ∧ (Holds (m := 4) (res_main_v174 V0) fun b => node (weight V0) (leaf b) 4)
    ∧ (Holds (m := 2) (res_main_v214 V0) fun b => node (weight V0) (leaf b) 5)
    ∧ Holds (m := 1) (norm (facts (.inl rfl)) (res_main_v242 V0)) fun b => node (weight V0) (leaf b) 6 := by
  have h1 : Holds (m := 32) (res_main_v54 V0) fun b => node (weight V0) (leaf b) 1 :=
    up_holds (n := 64) (by unfold Size; decide) rfl (rule V0) h0
  have h2 : Holds (m := 16) (res_main_v94 V0) fun b => node (weight V0) (leaf b) 2 :=
    up_holds (n := 32) (by unfold Size; decide) rfl (rule V0) h1
  have h3 : Holds (m := 8) (res_main_v134 V0) fun b => node (weight V0) (leaf b) 3 :=
    up_holds (n := 16) (by unfold Size; decide) rfl (rule V0) h2
  have h4 : Holds (m := 4) (res_main_v174 V0) fun b => node (weight V0) (leaf b) 4 :=
    up_holds (n := 8) (by unfold Size; decide) rfl (rule V0) h3
  have h5 : Holds (m := 2) (res_main_v214 V0) fun b => node (weight V0) (leaf b) 5 :=
    up_holds (n := 4) (by unfold Size; decide) rfl (rule V0) h4
  exact ⟨h1, h2, h3, h4, h5, up_holds (n := 2) (.inl rfl) rfl (rule V0) h5⟩

/-- The queries of the batch. -/
abbrev queries : IVec ⟨2, ![1024, 2]⟩ 32 := V0 (Proc.devRef .tc main_arg2)
/-- Where the query of a batch row begins. -/
def qlo (b : Fin 1024) : BitVec 32 := queries V0 (ix2 b 0)
/-- Where the query of a batch row ends. -/
def qhi (b : Fin 1024) : BitVec 32 := queries V0 (ix2 b 1)
/-- The token of the nodes a query misses. -/
def tok : Col := fun i => emb V0 (ix2 10 i)

/-- The column of query beginnings read at an index. -/
theorem qlo_apply (b : Fin 1024) (j : Fin 1) : res_main_v255 V0 (ix2 b j) = qlo V0 b := by
  unfold res_main_v255
  refine (extractStridedSlice_apply _ (s := ⟨2, ![1024, 2]⟩) _ _ (ix2 b j) (ix2 b 0) fun a => ?_)
  match a with
  | ⟨0, _⟩ => show b.val = 0 + b.val; omega
  | ⟨1, _⟩ => show 0 = 0 + j.val; omega

/-- The column of query ends read at an index. -/
theorem qhi_apply (b : Fin 1024) (j : Fin 1) : res_main_v256 V0 (ix2 b j) = qhi V0 b := by
  unfold res_main_v256
  refine (extractStridedSlice_apply _ (s := ⟨2, ![1024, 2]⟩) _ _ (ix2 b j) (ix2 b 1) fun a => ?_)
  match a with
  | ⟨0, _⟩ => show b.val = 0 + b.val; omega
  | ⟨1, _⟩ => show 1 = 1 + j.val; omega

/-- The printed token read at an index. -/
theorem tok_apply (i : Fin 32) : res_main_v14 V0 (ix1 i) = tok V0 i := by
  unfold res_main_v14
  refine (shapeCast_1a_a_apply _ _ i).trans ?_
  · refine extractStridedSlice_apply _ (s := ⟨2, ![11, 32]⟩) _ _ (ix2 0 i) (ix2 10 i) fun a => ?_
    match a with
    | ⟨0, _⟩ => rfl
    | ⟨1, _⟩ => show i.val = 0 + i.val; omega

/-- One level of answers: where the level below holds the answers of height `h`, and `t` the nodes of height `h + 1`,
    the printed choice holds the answers of height `h + 1`. -/
theorem reply_step {m n h : ℕ} (hm : Size m) (hn : n = 2 * m) {leaf : Fin 1024 → ℕ → Col}
    (ql qh : IVec (B m) 32) (w u : ℕ) (hw : w = 2 ^ (h + 1)) (hu : u = 2 ^ (h + 1) - 1)
    (hql : ∀ b j, ql (ix2 b j) = qlo V0 b) (hqh : ∀ b j, qh (ix2 b j) = qhi V0 b)
    {X : FVec Ideal (T n 32) .f32} {t : FVec Ideal (T m 32) .f32}
    (ht : Holds t fun b => node (weight V0) (leaf b) (h + 1))
    (hX : Holds X fun b => reply (weight V0) (leaf b) (tok V0) (qlo V0 b) (qhi V0 b) h) :
    Holds (pick (facts hm) ql qh (cols (ranges hm) (low (ranges hm) (BitVec.ofNat 32 w)))
        (cols (ranges hm) (high (ranges hm) (BitVec.ofNat 32 w) (BitVec.ofNat 32 u)))
        (token (ranges hm) (res_main_v14 V0)) t (up hm hn (rule V0) X))
      fun b => reply (weight V0) (leaf b) (tok V0) (qlo V0 b) (qhi V0 b) (h + 1) := by
  subst hw hu
  intro b j i
  rw [pick_apply, low_apply, high_apply, hql, hqh, token_apply, tok_apply, ht b j i, up_holds hm hn (rule V0) hX b j i]
  rfl

/-- One level of answers, with the query spread over the level's nodes. -/
theorem reply_rows {m n h : ℕ} (hm : Size m) (hn : n = 2 * m) {leaf : Fin 1024 → ℕ → Col} (w u : ℕ)
    (hw : w = 2 ^ (h + 1)) (hu : u = 2 ^ (h + 1) - 1)
    {X : FVec Ideal (T n 32) .f32} {t : FVec Ideal (T m 32) .f32}
    (ht : Holds t fun b => node (weight V0) (leaf b) (h + 1))
    (hX : Holds X fun b => reply (weight V0) (leaf b) (tok V0) (qlo V0 b) (qhi V0 b) h) :
    Holds (pick (facts hm) (rows (ranges hm) (res_main_v255 V0)) (rows (ranges hm) (res_main_v256 V0))
        (cols (ranges hm) (low (ranges hm) (BitVec.ofNat 32 w)))
        (cols (ranges hm) (high (ranges hm) (BitVec.ofNat 32 w) (BitVec.ofNat 32 u)))
        (token (ranges hm) (res_main_v14 V0)) t (up hm hn (rule V0) X))
      fun b => reply (weight V0) (leaf b) (tok V0) (qlo V0 b) (qhi V0 b) (h + 1) :=
  reply_step V0 hm hn _ _ w u hw hu (fun b _ => (rows_apply _ _ _ _).trans (qlo_apply V0 b 0))
    (fun b _ => (rows_apply _ _ _ _).trans (qhi_apply V0 b 0)) ht hX

/-- The levels of answers hold the answers, where the levels of the tree hold its nodes. -/
theorem replies {leaf : Fin 1024 → ℕ → Col} (h0 : Holds (m := 64) (res_main_v12 V0) leaf) :
    Holds (m := 1) (pick (facts (.inl rfl)) (res_main_v255 V0) (res_main_v256 V0)
        (cols (ranges (.inl rfl)) (res_main_v620 V0)) (cols (ranges (.inl rfl)) (res_main_v622 V0))
        (token (ranges (.inl rfl)) (res_main_v14 V0)) (norm (facts (.inl rfl)) (res_main_v242 V0))
        (norm (facts (.inl rfl)) (res_main_v662 V0)))
      fun b => reply (weight V0) (leaf b) (tok V0) (qlo V0 b) (qhi V0 b) 6 := by
  obtain ⟨t1, t2, t3, t4, t5, t6⟩ := tree V0 h0
  have hq {m : ℕ} (hm : Size m) (b : Fin 1024) (j : Fin m) : rows (ranges hm) (res_main_v255 V0) (ix2 b j) = qlo V0 b :=
    (rows_apply _ _ _ _).trans (qlo_apply V0 b 0)
  have hq' {m : ℕ} (hm : Size m) (b : Fin 1024) (j : Fin m) : rows (ranges hm) (res_main_v256 V0) (ix2 b j) = qhi V0 b :=
    (rows_apply _ _ _ _).trans (qhi_apply V0 b 0)
  have hs {m : ℕ} (h : m ∈ [1, 2, 4, 8, 16, 32, 64]) : Size m := by simpa [Size] using h
  have r0 : Holds (m := 64) (res_main_v281 V0) fun b => reply (weight V0) (leaf b) (tok V0) (qlo V0 b) (qhi V0 b) 0 := by
    have e : res_main_v281 V0 = whole (facts (hs (by decide))) (rows (ranges (hs (by decide))) (res_main_v255 V0))
        (rows (ranges (hs (by decide))) (res_main_v256 V0))
        (cols (ranges (hs (by decide))) (low (ranges (hs (by decide))) (BitVec.ofNat 32 1)))
        (cols (ranges (hs (by decide))) (high (ranges (hs (by decide))) (BitVec.ofNat 32 1) (BitVec.ofNat 32 0)))
        (res_main_v12 V0) (token (ranges (hs (by decide))) (res_main_v14 V0)) := rfl
    intro b j i
    rw [e, whole_apply, low_apply, high_apply, hq (hs (by decide)), hq' (hs (by decide)), token_apply, tok_apply, h0 b j i]
    rfl
  have r1 : Holds (m := 32) (res_main_v348 V0) fun b => reply (weight V0) (leaf b) (tok V0) (qlo V0 b) (qhi V0 b) 1 :=
    reply_rows V0 (n := 64) (hs (by decide)) rfl 2 1 rfl rfl t1 r0
  have r2 : Holds (m := 16) (res_main_v415 V0) fun b => reply (weight V0) (leaf b) (tok V0) (qlo V0 b) (qhi V0 b) 2 :=
    reply_rows V0 (n := 32) (hs (by decide)) rfl 4 3 rfl rfl t2 r1
  have r3 : Holds (m := 8) (res_main_v482 V0) fun b => reply (weight V0) (leaf b) (tok V0) (qlo V0 b) (qhi V0 b) 3 :=
    reply_rows V0 (n := 16) (hs (by decide)) rfl 8 7 rfl rfl t3 r2
  have r4 : Holds (m := 4) (res_main_v549 V0) fun b => reply (weight V0) (leaf b) (tok V0) (qlo V0 b) (qhi V0 b) 4 :=
    reply_rows V0 (n := 8) (hs (by decide)) rfl 16 15 rfl rfl t4 r3
  have r5 : Holds (m := 2) (res_main_v616 V0) fun b => reply (weight V0) (leaf b) (tok V0) (qlo V0 b) (qhi V0 b) 5 :=
    reply_rows V0 (n := 4) (hs (by decide)) rfl 32 31 rfl rfl t5 r4
  exact reply_step V0 (n := 2) (.inl rfl) rfl _ _ 64 63 rfl rfl (qlo_apply V0) (qhi_apply V0) t6 r5

/-- The output layer. -/
abbrev outw : FVec Ideal ⟨2, ![10, 32]⟩ .f32 := V0 (Proc.devRef .tc main_arg4)

/-- What the reference leaves in its result: the answers of the root times the output layer. -/
def result : FVec Ideal ⟨2, ![1024, 10]⟩ .f32 :=
  Host.dotGeneral dot_S1024x32_S32x10_S1024x10_1_0_0_1_n_n none
    (shapeCast S1024x32 (pick (facts (.inl rfl)) (res_main_v255 V0) (res_main_v256 V0)
        (cols (ranges (.inl rfl)) (res_main_v620 V0)) (cols (ranges (.inl rfl)) (res_main_v622 V0))
        (token (ranges (.inl rfl)) (res_main_v14 V0)) (norm (facts (.inl rfl)) (res_main_v242 V0))
        (norm (facts (.inl rfl)) (res_main_v662 V0))) shapeCasts_S1024x1x32_S1024x32)
    (transpose S32x10 [1, 0] (outw V0) transposes_S10x32_S32x10_1_0)

/-- The reference's result read at an index. -/
theorem result_apply {leaf : Fin 1024 → ℕ → Col} (h0 : Holds (m := 64) (res_main_v12 V0) leaf) (b : Fin 1024) (o : Fin 10) :
    result V0 (ix2 b o)
      = ∑ i : Fin 32, reply (weight V0) (leaf b) (tok V0) (qlo V0 b) (qhi V0 b) 6 0 i * outw V0 (ix2 o i) := by
  unfold result
  refine (StackMember.dotGeneral_plain_apply (m := 1024) (n := 10) (k := 32) none _ _ b o).trans ?_
  refine Finset.sum_congr rfl fun i _ => congrArg₂ (· * ·) ?_ ?_
  · rw [shapeCast_apply _ _ (ix2 b i) (ix3 b (0 : Fin 1) i) (by
      rw [Shape.rowMajor_val_three, Shape.rowMajor_val_two]; show (b.val * 1 + 0) * 32 + i.val = b.val * 32 + i.val; omega)]
    exact replies V0 h0 b 0 i
  · exact transpose_ix2_apply _ _ i o

/-- Every run of the reference leaves `result` in its result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v682) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.RefTree

end
-- ==== Proof.RefLeaves.lean ====
/- The reference's leaves: the row of the embedding that each id names, normalised. -/
module

public import proofs.«01_k».proof.Proof.RefTree
public import Idealize.ShloMosaic.Lib.StableHlo.Predicate
public import Idealize.ShloMosaic.Lib.ReduceAll

@[expose] public section

set_option maxRecDepth 16384

noncomputable section

namespace Cert.RefTree

open Idealize.ShloMosaic Idealize.ShloMosaic.ValueIdx Cert.Column Cert.Spec Cert.RefLevel
open Cert.ReferenceIdeal Cert.ReferenceIdeal.Gen Cert.ReferenceIdeal.Value

variable (V0 : Valuation τ sig (Elt Ideal))

/-- Row numbers are not negative, so their wrapping leaves them, and they pass the bounds check. -/
theorem wrap (r : Fin 11) :
    Scalar.select (IntOp.cmpi .slt (BitVec.ofNat 32 r.val) 0#32) (IntOp.addi (BitVec.ofNat 32 r.val) 11#32) (BitVec.ofNat 32 r.val)
        = BitVec.ofNat 32 r.val
    ∧ IntOp.andi (IntOp.cmpi .sge (BitVec.ofNat 32 r.val) 0#32) (IntOp.cmpi .sle (BitVec.ofNat 32 r.val) 10#32) = 1#1 := by
  revert r; decide

/-- The wrapped ids read at an index. -/
theorem wrapped_apply (h : ∀ b j, (ids V0 (ix2 b j)).toNat < 11) (b : Fin 1024) (j : Fin 64) (k : Fin 1) :
    res_main_call0_v5 V0 (ix3 b j k) = BitVec.ofNat 32 (row (ids V0 (ix2 b j))).val := by
  have hx := id_word (h b j)
  unfold res_main_call0_v5
  refine (broadcastInDim_apply _ _ (s := ⟨2, ![1024, 64]⟩) _ (ix3 b j k) (ix2 b j) (fun a => ?_)).trans ?_
  · match a with
    | ⟨0, _⟩ => rfl
    | ⟨1, _⟩ => rfl
  · refine Eq.trans ?_ (wrap (row (ids V0 (ix2 b j)))).1
    rw [← hx]
    rfl

/-- The rows of the embedding taken at ids that are row numbers. -/
theorem take_apply (x : FVec Ideal S11x32 .f32) (idx : IVec S1024x64x1 32) (b : Fin 1024) (j : Fin 64) (i : Fin 32)
    (r : Fin 11) (hr : idx (ix3 b j (0 : Fin 1)) = BitVec.ofNat 32 r.val) :
    Host.gather gather_S11x32_S1024x64x1_S1024x64x32_2_0_n_n_0_2_132 x idx (ix3 b j i) = x (ix2 r i) := by
  unfold Host.gather
  refine congrArg x (funext fun a => Fin.ext ?_)
  set d := gather_S11x32_S1024x64x1_S1024x64x32_2_0_n_n_0_2_132 with hd
  show d.start (ix3 b j i) idx a + d.batchCoord (ix3 b j i) a + d.offCoord (ix3 b j i) a = _
  rw [GatherDims.batchCoord_eq_zero _ _ _ (show a ∉ d.operandBatchingDims from List.not_mem_nil)]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 2) ∈ d.startIndexMap from List.mem_singleton.mpr rfl)).trans ?_
    have hsi : d.siIdx (ix3 b j i) ⟨List.idxOf (0 : Fin 2) d.startIndexMap,
        List.idxOf_lt_length_iff.2 (List.mem_singleton.mpr rfl)⟩ = ix3 b j (0 : Fin 1) := by
      funext c; refine Fin.ext ?_
      match c with
      | ⟨0, _⟩ => rfl
      | ⟨1, _⟩ => rfl
      | ⟨2, _⟩ => rfl
    have hl := r.isLt
    refine (congrArg (fun z : BitVec 32 => min z.toInt.toNat 10) ((congrArg idx hsi).trans hr)).trans ?_
    show min ((BitVec.ofNat 32 r.val).toInt).toNat 10 = r.val
    rw [StableHlo.Predicate.toInt_ofNat_small _ (by omega)]
    omega
  | ⟨1, _⟩ =>
    have h1 : d.start (ix3 b j i) idx (1 : Fin 2) = 0 := by
      unfold GatherDims.start
      rw [dif_neg (show (1 : Fin 2) ∉ d.startIndexMap by rw [hd]; decide)]
    show d.start (ix3 b j i) idx (1 : Fin 2) + 0 + d.offCoord (ix3 b j i) (1 : Fin 2) = i.val
    rw [h1]
    simp only [Nat.zero_add]
    rfl

/-- The taken rows read at an index. -/
theorem taken_apply (h : ∀ b j, (ids V0 (ix2 b j)).toNat < 11) (b : Fin 1024) (j : Fin 64) (i : Fin 32) :
    res_main_v0 V0 (ix3 b j i) = emb V0 (ix2 (row (ids V0 (ix2 b j))) i) := by
  unfold res_main_v0
  rw [select_apply, broadcastInDim_apply _ _ (s := ⟨2, ![1024, 64]⟩) _ (ix3 b j i) (ix2 b j) (fun a => by
    match a with
    | ⟨0, _⟩ => rfl
    | ⟨1, _⟩ => rfl)]
  rw [Host.reduce_andi_one _ _ _ _ _ rfl (fun k => ?_)]
  · exact (if_pos rfl).trans (take_apply _ _ b j i _ (wrapped_apply V0 h b j 0))
  · obtain ⟨b', j', k', rfl⟩ : ∃ b' j' k', k = ix3 b' j' k' := ⟨_, _, _, eq_ix3 k⟩
    refine Eq.trans ?_ (wrap (row (ids V0 (ix2 b' j')))).2
    rw [← wrapped_apply V0 h b' j' k']
    rfl

/-- The leaf of batch row `b` at place `j`. -/
def leaf (b : Fin 1024) (j : ℕ) : Col :=
  leafCol (fun r i => emb V0 (ix2 r i)) (ids V0 (ix2 b ⟨j % 64, Nat.mod_lt _ (by decide)⟩))

/-- The leaves' level holds the leaves. -/
theorem leaves (h : ∀ b j, (ids V0 (ix2 b j)).toNat < 11) : Holds (m := 64) (res_main_v12 V0) (leaf V0) := by
  intro b j i
  have e : res_main_v12 V0 = norm (facts (m := 64) (by unfold Size; decide)) (res_main_v0 V0) := rfl
  have hj : (⟨j.val % 64, Nat.mod_lt _ (by decide)⟩ : Fin 64) = j := Fin.ext (Nat.mod_eq_of_lt j.isLt)
  rw [e, norm_apply]
  unfold leaf leafCol
  rw [hj]
  exact congrFun (congrArg rnorm (funext fun i' => taken_apply V0 h b j i')) i

end Cert.RefTree

end
-- ==== Proof.Drawn.lean ====
/- What the precondition `drawn` says of the arguments, and the two programs' results set equal under it. -/
module

public import proofs.«01_k».proof.Defs
public import proofs.«01_k».proof.Proof.KernelRun
public import proofs.«01_k».proof.Proof.RefLeaves
public import Idealize.ShloMosaic.Lib.ValueLayout
public import Idealize.ShloMosaic.Lib.Quiescent

@[expose] public section

set_option maxRecDepth 16384

noncomputable section

namespace Cert.Drawn

open Idealize.ShloMosaic Idealize.ShloMosaic.TcCoe Idealize.ShloMosaic.ValueIdx Idealize.SL.Sem Cert.Column Cert.Spec

/-- The shape relations the precondition states hold. -/
theorem shapes : Cert.Pre_drawn.Facts := by constructor <;> decide

/-- A value whose magnitude compares below infinity is a real number. -/
theorem isReal_of_below {x : EReal}
    (h : FloatOps.cmpf (F := Ideal) (φ := .f32) .olt (FloatOps.hostAbsf x) (FloatOps.ofBits .f32 0x7F800000#32) = 1#1) :
    IsReal x := by
  have top : Ideal.ofBits .f32 0x7F800000#32 = ⊤ := by simp [Ideal.ofBits, Ideal.ieee]
  have e : BitVec.ofBool (decide (max x (-x) < Ideal.ofBits .f32 0x7F800000#32)) = 1#1 := h
  rw [top] at e
  have hb : ∀ b : Bool, BitVec.ofBool b = 1#1 → b = true := by decide
  have lt : max x (-x) < ⊤ := of_decide_eq_true (hb _ e)
  induction x using EReal.rec with
  | bot => simp at lt
  | top => simp at lt
  | coe r => exact ⟨r, rfl⟩

section
open Cert.KernelIdeal
attribute [local instance] shapes

variable {m : (ℓ : Loc nD τ sig) → Buf (Elt Ideal) ℓ} (h : Pre_KernelIdeal_drawn m) (c : Dev nD)
include h

/-- Every id is the number of a row of the embedding. -/
theorem ids_lt (b : Fin 1024) (j : Fin 64) : (KernelRun.ids m c (ix2 b j)).toNat < 11 :=
  id_lt (congrFun (h c).1 (ix2 b j)) (congrFun (h c).2.1 (ix2 b j))

/-- The embedding's last row, the token, is real. -/
theorem token_real (i : Fin 32) : IsReal (KernelRun.emb m c (ix2 10 i)) := by
  have e := congrFun (h c).2.2.1 (ix1 i)
  have k : shapeCast Pre_drawn.S32 (extractStridedSlice Pre_drawn.S1x32 ![10, 0] (KernelRun.emb m c)
      shapes.slices_S11x32_S1x32_10_0) shapes.shapeCasts_S1x32_S32 (ix1 i) = KernelRun.emb m c (ix2 10 i) :=
    (shapeCast_1a_a_apply _ _ i).trans (slice2_axis0_apply 10 _ _ 0 i 10 rfl)
  refine isReal_of_below ?_
  rw [← k]
  exact e

/-- The rules' weights are real. -/
theorem rule_real (r : Fin 2) (k : Fin 1024) : IsReal (KernelRun.rule m c (ix2 r k)) :=
  isReal_of_below (congrFun (h c).2.2.2 (ix2 r k))

end

/-- Where the precondition holds and the two programs' arguments are the same, so are their results. -/
theorem results_eq {m : (ℓ : Loc KernelIdeal.nD KernelIdeal.τ KernelIdeal.sig) → Buf (Elt Ideal) ℓ}
    (h : Pre_KernelIdeal_drawn (hPre_drawn := shapes) m) (c : Dev KernelIdeal.nD)
    (V0 : Valuation ReferenceIdeal.τ ReferenceIdeal.sig (Elt Ideal))
    (hi : RefTree.ids V0 = KernelRun.ids m c) (hq : RefTree.queries V0 = KernelRun.queries m c)
    (he : RefTree.emb V0 = KernelRun.emb m c) (ho : RefTree.outw V0 = KernelRun.outw m c)
    (hr : RefTree.rule V0 = KernelRun.rule m c) : RefTree.result V0 = KernelRun.result m c := by
  have hl := RefTree.leaves V0 (fun b j => hi ▸ ids_lt h c b j)
  have hw : RefTree.weight V0 = KernelRun.weight m c := by unfold RefTree.weight; rw [hr]
  have e : ∀ (b : Fin 1024) (o : Fin 10), RefTree.result V0 (ix2 b o) = KernelRun.result m c (ix2 b o) := fun b o => by
    refine (RefTree.result_apply V0 hl b o).trans
      (Eq.trans ?_ (KernelRun.result_apply m c (ids_lt h c) (rule_real h c) (token_real h c) b o).symm)
    unfold RefTree.leaf RefTree.tok RefTree.qlo RefTree.qhi KernelRun.idAt
    rw [hw, hi, hq, he, ho]
  exact funext fun x => (congrArg _ (eq_ix2 x)).trans ((e (x 0) (x 1)).trans (congrArg _ (eq_ix2 x)).symm)

end Cert.Drawn

end
-- ==== Proof.lean ====
/- The certificate: the frames, the preservation and the algebraic claim, put together. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Drawn

@[expose] public section

noncomputable section

namespace Cert.Proof

open Idealize.ShloMosaic Idealize.SL.Sem

/-- Every run of the reference leaves its arguments as they were; it has no semaphores. -/
theorem reference_frame : Cert.quiescent_ReferenceIdeal := fun m g _ =>
  (θ_run ReferenceIdeal.defs _ _).mono (fun _ h => ⟨fun c => (h c).2, sem_eq_zero_of_no_sems (by decide) _⟩) (RefTree.run m g)

/-- From equal arguments under the precondition, the kernel and the reference leave equal results. -/
theorem algebraic : Cert.algebraic_KernelIdeal_ReferenceIdeal_pre_drawn (hPre_drawn := Drawn.shapes) := fun m g m' g' h same => by
  have e : ∀ c, RefTree.result (StableHlo.launchContents m' c) = KernelRun.result m c := fun c => by
    obtain ⟨h0, -, h2, h3, h4, h5⟩ := same c
    exact Drawn.results_eq h c _ h0 h2 h3 h4 h5
  exact ⟨KernelRun.result m, KernelRun.run m g,
    (θ_run ReferenceIdeal.defs _ _).mono (fun _ k c => ⟨(k c).1.trans (e c), (k c).2⟩) (RefTree.run m' g')⟩

/-- The claims of the certificate. -/
theorem claim : Cert.Claim :=
  ⟨Cert.Kernel.Gen.facts, Cert.KernelIdeal.Gen.facts, Cert.ReferenceIdeal.Gen.facts, Drawn.shapes,
    fun m g _ => Cert.Kernel.Gen.frame m g, fun m g _ => Cert.KernelIdeal.Gen.frame m g,
    fun m g _ => Cert.KernelIdeal.Gen.frame m g, reference_frame, fun m g _ => reference_frame m g trivial, trivial, algebraic⟩

end Cert.Proof

end
